-- ==== Defs.lean ====
def Pre_Up [hPre_up_tables : Cert.Pre_up_tables.Facts] (m : (ℓ : Loc Cert.Up.nD Cert.Up.τ Cert.Up.sig) → Buf (Elt Bits) ℓ) : Prop :=
  ∀ c : Dev Cert.Up.nD,
    (Cert.Pre_up_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_up_tables : Cert.Pre_up_tables.Facts] (m : (ℓ : Loc Cert.UpIdeal.nD Cert.UpIdeal.τ Cert.UpIdeal.sig) → Buf (Elt Ideal) ℓ) : Prop :=
  ∀ c : Dev Cert.UpIdeal.nD,
    (Cert.Pre_up_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_up_tables [hPre_up_tables : Cert.Pre_up_tables.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_up_tables.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))) = (fun _ => 1#1)

def Pre_Down [hPre_down_tables : Cert.Pre_down_tables.Facts] (m : (ℓ : Loc Cert.Down.nD Cert.Down.τ Cert.Down.sig) → Buf (Elt Bits) ℓ) : Prop :=
  ∀ c : Dev Cert.Down.nD,
    (Cert.Pre_down_tables.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_down_tables : Cert.Pre_down_tables.Facts] (m : (ℓ : Loc Cert.DownIdeal.nD Cert.DownIdeal.τ Cert.DownIdeal.sig) → Buf (Elt Ideal) ℓ) : Prop :=
  ∀ c : Dev Cert.DownIdeal.nD,
    (Cert.Pre_down_tables.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_down_tables [hPre_down_tables : Cert.Pre_down_tables.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_down_tables.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingReferenceIdeal (m : (ℓ : Loc Cert.GatingReferenceIdeal.nD Cert.GatingReferenceIdeal.τ Cert.GatingReferenceIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def quiescent_Up [hUp : Cert.Up.Facts] [hPre_up_tables : Cert.Pre_up_tables.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_up_tables : Cert.Pre_up_tables.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_UpReferenceIdeal_pre_up_tables [hUpReferenceIdeal : Cert.UpReferenceIdeal.Facts] [hPre_up_tables : Cert.Pre_up_tables.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_up_tables m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_Down [hDown : Cert.Down.Facts] [hPre_down_tables : Cert.Pre_down_tables.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_down_tables : Cert.Pre_down_tables.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_DownReferenceIdeal_pre_down_tables [hDownReferenceIdeal : Cert.DownReferenceIdeal.Facts] [hPre_down_tables : Cert.Pre_down_tables.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_down_tables m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7)
      ∧ r.2.mem ((c.tc : Thread Cert.OutProjReferenceIdeal.nD Cert.OutProjReferenceIdeal.τ).loc Cert.OutProjReferenceIdeal.main_arg8) = m ((c.tc : Thread Cert.OutProjReferenceIdeal.nD Cert.OutProjReferenceIdeal.τ).loc Cert.OutProjReferenceIdeal.main_arg8))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ r.2.sem = fun _ => 0)

def quiescent_GatingReferenceIdeal [hGatingReferenceIdeal : Cert.GatingReferenceIdeal.Facts] : Prop :=
  ∀ (m : (ℓ : Loc Cert.GatingReferenceIdeal.nD Cert.GatingReferenceIdeal.τ Cert.GatingReferenceIdeal.sig) → Buf (Elt Ideal) ℓ) (g : Dev Cert.GatingReferenceIdeal.nD → PrngReg), Pre_GatingReferenceIdeal m →
    θ_run (Cert.GatingReferenceIdeal.defs (F := Ideal)) (onTc (τ := Cert.GatingReferenceIdeal.τ) (Cert.GatingReferenceIdeal.main (F := Ideal))) ⟨m, fun _ => 0, g⟩ (fun r => (∀ c : Dev Cert.GatingReferenceIdeal.nD,
      r.2.mem ((c.tc : Thread Cert.GatingReferenceIdeal.nD Cert.GatingReferenceIdeal.τ).loc Cert.GatingReferenceIdeal.main_arg0) = m ((c.tc : Thread Cert.GatingReferenceIdeal.nD Cert.GatingReferenceIdeal.τ).loc Cert.GatingReferenceIdeal.main_arg0)
      ∧ r.2.mem ((c.tc : Thread Cert.GatingReferenceIdeal.nD Cert.GatingReferenceIdeal.τ).loc Cert.GatingReferenceIdeal.main_arg1) = m ((c.tc : Thread Cert.GatingReferenceIdeal.nD Cert.GatingReferenceIdeal.τ).loc Cert.GatingReferenceIdeal.main_arg1)
      ∧ r.2.mem ((c.tc : Thread Cert.GatingReferenceIdeal.nD Cert.GatingReferenceIdeal.τ).loc Cert.GatingReferenceIdeal.main_arg2) = m ((c.tc : Thread Cert.GatingReferenceIdeal.nD Cert.GatingReferenceIdeal.τ).loc Cert.GatingReferenceIdeal.main_arg2)
      ∧ r.2.mem ((c.tc : Thread Cert.GatingReferenceIdeal.nD Cert.GatingReferenceIdeal.τ).loc Cert.GatingReferenceIdeal.main_arg3) = m ((c.tc : Thread Cert.GatingReferenceIdeal.nD Cert.GatingReferenceIdeal.τ).loc Cert.GatingReferenceIdeal.main_arg3)
      ∧ r.2.mem ((c.tc : Thread Cert.GatingReferenceIdeal.nD Cert.GatingReferenceIdeal.τ).loc Cert.GatingReferenceIdeal.main_arg4) = m ((c.tc : Thread Cert.GatingReferenceIdeal.nD Cert.GatingReferenceIdeal.τ).loc Cert.GatingReferenceIdeal.main_arg4))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3)
      ∧ r.2.mem ((c.tc : Thread Cert.CompressReferenceIdeal.nD Cert.CompressReferenceIdeal.τ).loc Cert.CompressReferenceIdeal.main_arg4) = m ((c.tc : Thread Cert.CompressReferenceIdeal.nD Cert.CompressReferenceIdeal.τ).loc Cert.CompressReferenceIdeal.main_arg4))
      ∧ r.2.sem = fun _ => 0)

def preserves_Up_UpIdeal : Prop :=
  True

def algebraic_UpIdeal_UpReferenceIdeal [hUpIdeal : Cert.UpIdeal.Facts] [hUpReferenceIdeal : Cert.UpReferenceIdeal.Facts] [hPre_up_tables : Cert.Pre_up_tables.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v25) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_Down_DownIdeal : Prop :=
  True

def algebraic_DownIdeal_DownReferenceIdeal_on_down_rows [hDownIdeal : Cert.DownIdeal.Facts] [hDownReferenceIdeal : Cert.DownReferenceIdeal.Facts] [hPre_down_tables : Cert.Pre_down_tables.Facts] [hOn_down_rows : Cert.On_down_rows.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          (∀ i : (⟨2, ![20480, 2048]⟩ : Shape).Idx, (Cert.On_down_rows.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) i = 1#1 → r.2.mem ((c.tc : Thread Cert.DownIdeal.nD Cert.DownIdeal.τ).loc Cert.DownIdeal.main_v0) i = v0 c i)
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          (∀ i : (⟨2, ![20480, 2048]⟩ : Shape).Idx, (Cert.On_down_rows.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) i = 1#1 → r.2.mem ((c.tc : Thread Cert.DownReferenceIdeal.nD Cert.DownReferenceIdeal.τ).loc Cert.DownReferenceIdeal.main_v12) i = v0 c i)
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v13) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)
      ∧ m' ((c.tc : Thread Cert.OutProjReferenceIdeal.nD Cert.OutProjReferenceIdeal.τ).loc Cert.OutProjReferenceIdeal.main_arg7) = m ((c.tc : Thread Cert.OutProjIdeal.nD Cert.OutProjIdeal.τ).loc Cert.OutProjIdeal.main_arg7)
      ∧ m' ((c.tc : Thread Cert.OutProjReferenceIdeal.nD Cert.OutProjReferenceIdeal.τ).loc Cert.OutProjReferenceIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v11) = v0 c
          ∧ r.2.mem ((c.tc : Thread Cert.OutProjReferenceIdeal.nD Cert.OutProjReferenceIdeal.τ).loc Cert.OutProjReferenceIdeal.main_v24) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6)
          ∧ r.2.mem ((c.tc : Thread Cert.OutProjReferenceIdeal.nD Cert.OutProjReferenceIdeal.τ).loc Cert.OutProjReferenceIdeal.main_arg7) = m' ((c.tc : Thread Cert.OutProjReferenceIdeal.nD Cert.OutProjReferenceIdeal.τ).loc Cert.OutProjReferenceIdeal.main_arg7)
          ∧ r.2.mem ((c.tc : Thread Cert.OutProjReferenceIdeal.nD Cert.OutProjReferenceIdeal.τ).loc Cert.OutProjReferenceIdeal.main_arg8) = m' ((c.tc : Thread Cert.OutProjReferenceIdeal.nD Cert.OutProjReferenceIdeal.τ).loc Cert.OutProjReferenceIdeal.main_arg8))

def preserves_Gating_GatingIdeal : Prop :=
  True

def algebraic_GatingIdeal_GatingReferenceIdeal [hGatingIdeal : Cert.GatingIdeal.Facts] [hGatingReferenceIdeal : Cert.GatingReferenceIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingReferenceIdeal.nD Cert.GatingReferenceIdeal.τ Cert.GatingReferenceIdeal.sig) → Buf (Elt Ideal) ℓ) (g' : Dev Cert.GatingReferenceIdeal.nD → PrngReg), Pre_GatingIdeal m →
    (∀ c : Dev Cert.GatingIdeal.nD,
      m' ((c.tc : Thread Cert.GatingReferenceIdeal.nD Cert.GatingReferenceIdeal.τ).loc Cert.GatingReferenceIdeal.main_arg0) = m ((c.tc : Thread Cert.GatingIdeal.nD Cert.GatingIdeal.τ).loc Cert.GatingIdeal.main_arg0)
      ∧ m' ((c.tc : Thread Cert.GatingReferenceIdeal.nD Cert.GatingReferenceIdeal.τ).loc Cert.GatingReferenceIdeal.main_arg1) = m ((c.tc : Thread Cert.GatingIdeal.nD Cert.GatingIdeal.τ).loc Cert.GatingIdeal.main_arg1)
      ∧ m' ((c.tc : Thread Cert.GatingReferenceIdeal.nD Cert.GatingReferenceIdeal.τ).loc Cert.GatingReferenceIdeal.main_arg2) = m ((c.tc : Thread Cert.GatingIdeal.nD Cert.GatingIdeal.τ).loc Cert.GatingIdeal.main_arg2)
      ∧ m' ((c.tc : Thread Cert.GatingReferenceIdeal.nD Cert.GatingReferenceIdeal.τ).loc Cert.GatingReferenceIdeal.main_arg3) = m ((c.tc : Thread Cert.GatingIdeal.nD Cert.GatingIdeal.τ).loc Cert.GatingIdeal.main_arg3)
      ∧ m' ((c.tc : Thread Cert.GatingReferenceIdeal.nD Cert.GatingReferenceIdeal.τ).loc Cert.GatingReferenceIdeal.main_arg4) = m ((c.tc : Thread Cert.GatingIdeal.nD Cert.GatingIdeal.τ).loc Cert.GatingIdeal.main_arg4)) →
    ∃ (v0 : (c : Dev Cert.GatingIdeal.nD) → Buf (Elt Ideal) ((c.tc : Thread Cert.GatingIdeal.nD Cert.GatingIdeal.τ).loc Cert.GatingIdeal.main_v3)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v3) = v0 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ θ_run (Cert.GatingReferenceIdeal.defs (F := Ideal)) (onTc (τ := Cert.GatingReferenceIdeal.τ) (Cert.GatingReferenceIdeal.main (F := Ideal))) ⟨m', fun _ => 0, g'⟩ (fun r => ∀ c : Dev Cert.GatingReferenceIdeal.nD,
          r.2.mem ((c.tc : Thread Cert.GatingReferenceIdeal.nD Cert.GatingReferenceIdeal.τ).loc Cert.GatingReferenceIdeal.main_v51) = v0 c
          ∧ r.2.mem ((c.tc : Thread Cert.GatingReferenceIdeal.nD Cert.GatingReferenceIdeal.τ).loc Cert.GatingReferenceIdeal.main_arg0) = m' ((c.tc : Thread Cert.GatingReferenceIdeal.nD Cert.GatingReferenceIdeal.τ).loc Cert.GatingReferenceIdeal.main_arg0)
          ∧ r.2.mem ((c.tc : Thread Cert.GatingReferenceIdeal.nD Cert.GatingReferenceIdeal.τ).loc Cert.GatingReferenceIdeal.main_arg1) = m' ((c.tc : Thread Cert.GatingReferenceIdeal.nD Cert.GatingReferenceIdeal.τ).loc Cert.GatingReferenceIdeal.main_arg1)
          ∧ r.2.mem ((c.tc : Thread Cert.GatingReferenceIdeal.nD Cert.GatingReferenceIdeal.τ).loc Cert.GatingReferenceIdeal.main_arg2) = m' ((c.tc : Thread Cert.GatingReferenceIdeal.nD Cert.GatingReferenceIdeal.τ).loc Cert.GatingReferenceIdeal.main_arg2)
          ∧ r.2.mem ((c.tc : Thread Cert.GatingReferenceIdeal.nD Cert.GatingReferenceIdeal.τ).loc Cert.GatingReferenceIdeal.main_arg3) = m' ((c.tc : Thread Cert.GatingReferenceIdeal.nD Cert.GatingReferenceIdeal.τ).loc Cert.GatingReferenceIdeal.main_arg3)
          ∧ r.2.mem ((c.tc : Thread Cert.GatingReferenceIdeal.nD Cert.GatingReferenceIdeal.τ).loc Cert.GatingReferenceIdeal.main_arg4) = m' ((c.tc : Thread Cert.GatingReferenceIdeal.nD Cert.GatingReferenceIdeal.τ).loc Cert.GatingReferenceIdeal.main_arg4))

def preserves_Compress_CompressIdeal : Prop :=
  True

def algebraic_CompressIdeal_CompressReferenceIdeal_on_compressed_rows [hCompressIdeal : Cert.CompressIdeal.Facts] [hCompressReferenceIdeal : Cert.CompressReferenceIdeal.Facts] [hOn_compressed_rows : Cert.On_compressed_rows.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)
      ∧ m' ((c.tc : Thread Cert.CompressReferenceIdeal.nD Cert.CompressReferenceIdeal.τ).loc Cert.CompressReferenceIdeal.main_arg3) = m ((c.tc : Thread Cert.CompressIdeal.nD Cert.CompressIdeal.τ).loc Cert.CompressIdeal.main_arg3)
      ∧ m' ((c.tc : Thread Cert.CompressReferenceIdeal.nD Cert.CompressReferenceIdeal.τ).loc Cert.CompressReferenceIdeal.main_arg4) = m ((c.tc : Thread Cert.CompressIdeal.nD Cert.CompressIdeal.τ).loc Cert.CompressIdeal.main_arg4)) →
    ∃ (v0 : (c : Dev Cert.CompressIdeal.nD) → Buf (Elt Ideal) ((c.tc : Thread Cert.CompressIdeal.nD Cert.CompressIdeal.τ).loc Cert.CompressIdeal.main_v10)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          (∀ i : (⟨4, ![2, 2, 512, 128]⟩ : Shape).Idx, (Cert.On_compressed_rows.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4))) i = 1#1 → r.2.mem ((c.tc : Thread Cert.CompressIdeal.nD Cert.CompressIdeal.τ).loc Cert.CompressIdeal.main_v10) i = v0 c i)
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          (∀ i : (⟨4, ![2, 2, 512, 128]⟩ : Shape).Idx, (Cert.On_compressed_rows.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4))) i = 1#1 → r.2.mem ((c.tc : Thread Cert.CompressReferenceIdeal.nD Cert.CompressReferenceIdeal.τ).loc Cert.CompressReferenceIdeal.main_v81) i = v0 c i)
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3)
          ∧ r.2.mem ((c.tc : Thread Cert.CompressReferenceIdeal.nD Cert.CompressReferenceIdeal.τ).loc Cert.CompressReferenceIdeal.main_arg4) = m' ((c.tc : Thread Cert.CompressReferenceIdeal.nD Cert.CompressReferenceIdeal.τ).loc Cert.CompressReferenceIdeal.main_arg4))

def Claim : Prop :=
  ∃ (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hGating : Cert.Gating.Facts) (hGatingIdeal : Cert.GatingIdeal.Facts) (hGatingReferenceIdeal : Cert.GatingReferenceIdeal.Facts) (hCompress : Cert.Compress.Facts) (hCompressIdeal : Cert.CompressIdeal.Facts) (hCompressReferenceIdeal : Cert.CompressReferenceIdeal.Facts) (hPre_up_tables : Cert.Pre_up_tables.Facts) (hPre_down_tables : Cert.Pre_down_tables.Facts) (hOn_down_rows : Cert.On_down_rows.Facts) (hOn_compressed_rows : Cert.On_compressed_rows.Facts),
    quiescent_Up (hUp := hUp) (hPre_up_tables := hPre_up_tables)
    ∧ quiescent_UpIdeal (hUpIdeal := hUpIdeal) (hPre_up_tables := hPre_up_tables)
    ∧ quiescent_UpReferenceIdeal (hUpReferenceIdeal := hUpReferenceIdeal)
    ∧ quiescent_UpReferenceIdeal_pre_up_tables (hUpReferenceIdeal := hUpReferenceIdeal) (hPre_up_tables := hPre_up_tables)
    ∧ quiescent_Down (hDown := hDown) (hPre_down_tables := hPre_down_tables)
    ∧ quiescent_DownIdeal (hDownIdeal := hDownIdeal) (hPre_down_tables := hPre_down_tables)
    ∧ quiescent_DownReferenceIdeal (hDownReferenceIdeal := hDownReferenceIdeal)
    ∧ quiescent_DownReferenceIdeal_pre_down_tables (hDownReferenceIdeal := hDownReferenceIdeal) (hPre_down_tables := hPre_down_tables)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Gating (hGating := hGating)
    ∧ quiescent_GatingIdeal (hGatingIdeal := hGatingIdeal)
    ∧ quiescent_GatingReferenceIdeal (hGatingReferenceIdeal := hGatingReferenceIdeal)
    ∧ quiescent_Compress (hCompress := hCompress)
    ∧ quiescent_CompressIdeal (hCompressIdeal := hCompressIdeal)
    ∧ quiescent_CompressReferenceIdeal (hCompressReferenceIdeal := hCompressReferenceIdeal)
    ∧ preserves_Up_UpIdeal
    ∧ algebraic_UpIdeal_UpReferenceIdeal (hUpIdeal := hUpIdeal) (hUpReferenceIdeal := hUpReferenceIdeal) (hPre_up_tables := hPre_up_tables)
    ∧ preserves_Down_DownIdeal
    ∧ algebraic_DownIdeal_DownReferenceIdeal_on_down_rows (hDownIdeal := hDownIdeal) (hDownReferenceIdeal := hDownReferenceIdeal) (hPre_down_tables := hPre_down_tables) (hOn_down_rows := hOn_down_rows)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Gating_GatingIdeal
    ∧ algebraic_GatingIdeal_GatingReferenceIdeal (hGatingIdeal := hGatingIdeal) (hGatingReferenceIdeal := hGatingReferenceIdeal)
    ∧ preserves_Compress_CompressIdeal
    ∧ algebraic_CompressIdeal_CompressReferenceIdeal_on_compressed_rows (hCompressIdeal := hCompressIdeal) (hCompressReferenceIdeal := hCompressReferenceIdeal) (hOn_compressed_rows := hOn_compressed_rows)
-- ==== On_compressed_rows.lean ====
abbrev S8192x128 : Shape := ⟨2, ![8192, 128]⟩
abbrev S2x32x64 : Shape := ⟨3, ![2, 32, 64]⟩
abbrev S2x2048x256 : Shape := ⟨3, ![2, 2048, 256]⟩
abbrev S2x256x64 : Shape := ⟨3, ![2, 256, 64]⟩
abbrev S512 : Shape := ⟨1, ![512]⟩
abbrev S_ : Shape := ⟨0, ![]⟩
abbrev S1x1x512x1 : Shape := ⟨4, ![1, 1, 512, 1]⟩
abbrev S2x2x512x128 : Shape := ⟨4, ![2, 2, 512, 128]⟩

class Facts : Prop where
  bcast_S_S512 : S_.BroadcastsInDim S512 (![] : Fin 0 → Fin S512.rank)
  bcast_S512_S1x1x512x1_2 : S512.BroadcastsInDim S1x1x512x1 (![2] : Fin 1 → Fin S1x1x512x1.rank)
  bcast_S1x1x512x1_S2x2x512x128_0_1_2_3 : S1x1x512x1.BroadcastsInDim S2x2x512x128 (![0, 1, 2, 3] : Fin 4 → Fin S2x2x512x128.rank)

variable [Facts]

def fn {F : FTy → Type} [FloatOps F] (main_arg0 : FVec F S8192x128 .f32) (main_arg1 : FVec F S8192x128 .f32) (main_arg2 : FVec F S2x32x64 .f32) (main_arg3 : FVec F S2x2048x256 .f32) (main_arg4 : FVec F S2x256x64 .f32) : IVec S2x2x512x128 1 :=
  let main_v0 : IVec S512 32 := iotaInDim S512 32 0
  let main_c : IVec S_ 32 := constantI S_ 32 511#32
  let main_v1 : IVec S512 32 := broadcastInDim S512 ![] bcast_S_S512 main_c
  let main_v2 : IVec S512 1 := cmpi .slt main_v0 main_v1
  let main_v3 : IVec S1x1x512x1 1 := broadcastInDim S1x1x512x1 ![2] bcast_S512_S1x1x512x1_2 main_v2
  let main_v4 : IVec S2x2x512x128 1 := broadcastInDim S2x2x512x128 ![0, 1, 2, 3] bcast_S1x1x512x1_S2x2x512x128_0_1_2_3 main_v3
  main_v4
-- ==== On_down_rows.lean ====
abbrev S40 : Shape := ⟨1, ![40]⟩
abbrev S1 : Shape := ⟨1, ![1]⟩
abbrev S20480x5632 : Shape := ⟨2, ![20480, 5632]⟩
abbrev S16x5632x2048 : Shape := ⟨3, ![16, 5632, 2048]⟩
abbrev S20480x1 : Shape := ⟨2, ![20480, 1]⟩
abbrev S20480 : Shape := ⟨1, ![20480]⟩
abbrev S_ : Shape := ⟨0, ![]⟩
abbrev S20480x2048 : Shape := ⟨2, ![20480, 2048]⟩

class Facts : Prop where
  shapeCasts_S1_S_ : S1.ShapeCasts S_
  bcast_S_S20480 : S_.BroadcastsInDim S20480 (![] : Fin 0 → Fin S20480.rank)
  bcast_S20480_S20480x1_0 : S20480.BroadcastsInDim S20480x1 (![0] : Fin 1 → Fin S20480x1.rank)
  bcast_S20480x1_S20480x2048_0_1 : S20480x1.BroadcastsInDim S20480x2048 (![0, 1] : Fin 2 → Fin S20480x2048.rank)

variable [Facts]

def fn {F : FTy → Type} [FloatOps F] (main_arg0 : IVec S40 32) (main_arg1 : IVec S1 32) (main_arg2 : FVec F S20480x5632 .bf16) (main_arg3 : FVec F S16x5632x2048 .f32) (main_arg4 : FVec F S20480x1 .f32) : IVec S20480x2048 1 :=
  let main_v0 : IVec S20480 32 := iotaInDim S20480 32 0
  let main_v1 : IVec S_ 32 := shapeCast S_ main_arg1 shapeCasts_S1_S_
  let main_c : IVec S_ 32 := constantI S_ 32 512#32
  let main_v2 : IVec S_ 32 := muli main_v1 main_c
  let main_v3 : IVec S20480 32 := broadcastInDim S20480 ![] bcast_S_S20480 main_v2
  let main_v4 : IVec S20480 1 := cmpi .slt main_v0 main_v3
  let main_v5 : IVec S20480x1 1 := broadcastInDim S20480x1 ![0] bcast_S20480_S20480x1_0 main_v4
  let main_v6 : IVec S20480x2048 1 := broadcastInDim S20480x2048 ![0, 1] bcast_S20480x1_S20480x2048_0_1 main_v5
  main_v6
-- ==== Pre_down_tables.lean ====
abbrev S40 : Shape := ⟨1, ![40]⟩
abbrev S1 : Shape := ⟨1, ![1]⟩
abbrev S20480x5632 : Shape := ⟨2, ![20480, 5632]⟩
abbrev S16x5632x2048 : Shape := ⟨3, ![16, 5632, 2048]⟩
abbrev S20480x1 : Shape := ⟨2, ![20480, 1]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  shapeCasts_S1_S_ : S1.ShapeCasts S_

variable [Facts]

def fn {F : FTy → Type} [FloatOps F] (main_arg0 : IVec S40 32) (main_arg1 : IVec S1 32) (main_arg2 : FVec F S20480x5632 .bf16) (main_arg3 : FVec F S16x5632x2048 .f32) (main_arg4 : FVec F S20480x1 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 16#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 40#32
  let main_v10 : IVec S_ 1 := cmpi .sle main_v9 main_c_3
  let main_v11 : IVec S_ 1 := andi main_v8 main_v10
  main_v11
-- ==== Pre_up_tables.lean ====
abbrev S40 : Shape := ⟨1, ![40]⟩
abbrev S1 : Shape := ⟨1, ![1]⟩
abbrev S20480x2048 : Shape := ⟨2, ![20480, 2048]⟩
abbrev S16x2048x5632 : Shape := ⟨3, ![16, 2048, 5632]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  shapeCasts_S1_S_ : S1.ShapeCasts S_

variable [Facts]

def fn {F : FTy → Type} [FloatOps F] (main_arg0 : IVec S40 32) (main_arg1 : IVec S1 32) (main_arg2 : FVec F S20480x2048 .bf16) (main_arg3 : FVec F S16x2048x5632 .f32) (main_arg4 : FVec F S16x2048x5632 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 16#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 40#32
  let main_v10 : IVec S_ 1 := cmpi .sle main_v9 main_c_3
  let main_v11 : IVec S_ 1 := andi main_v8 main_v10
  main_v11
-- ==== Up.lean ====
abbrev S40 : Shape := ⟨1, ![40]⟩
abbrev S1 : Shape := ⟨1, ![1]⟩
abbrev S20480x2048 : Shape := ⟨2, ![20480, 2048]⟩
abbrev S16x2048x5632 : Shape := ⟨3, ![16, 2048, 5632]⟩
abbrev S20480x5632 : Shape := ⟨2, ![20480, 5632]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 4
  | .vmem => 10
  | .smem => 2
  | _ => 0

abbrev bufTy : (tb : Table) → Fin (tcTables nBuf tb) → BufTy
  | .hbm, ⟨0, _⟩ => ⟨S20480x2048, .bf16⟩
  | .hbm, ⟨1, _⟩ => ⟨S16x2048x5632, .f32⟩
  | .hbm, ⟨2, _⟩ => ⟨S16x2048x5632, .f32⟩
  | .hbm, ⟨3, _⟩ => ⟨S20480x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .smem, ⟨0, _⟩ => ⟨S40, .i32⟩
  | .local _ .smem, ⟨1, _⟩ => ⟨S1, .i32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 40], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v9 : Index := Scalar.indexCast arg1
  ![v9.toNat]
def k0_off3 (i : grid0.Coords) : Fin 1 → Nat :=
  let arg1 : BitVec 32 := BitVec.ofNat 32 (i 1).val
  let c1_i32 : BitVec 32 := 1#32
  let v11 : BitVec 32 := Scalar.subi arg1 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S40 : Shape := ⟨1, ![40]⟩
abbrev S1 : Shape := ⟨1, ![1]⟩
abbrev S20480x2048 : Shape := ⟨2, ![20480, 2048]⟩
abbrev S16x2048x5632 : Shape := ⟨3, ![16, 2048, 5632]⟩
abbrev S20480 : Shape := ⟨1, ![20480]⟩
abbrev S_ : Shape := ⟨0, ![]⟩
abbrev S40x512 : Shape := ⟨2, ![40, 512]⟩
abbrev S20480x1 : Shape := ⟨2, ![20480, 1]⟩
abbrev S16 : Shape := ⟨1, ![16]⟩
abbrev S1x16 : Shape := ⟨2, ![1, 16]⟩
abbrev S20480x16 : Shape := ⟨2, ![20480, 16]⟩
abbrev S16x5632x20480 : Shape := ⟨3, ![16, 5632, 20480]⟩
abbrev S16x20480x5632 : Shape := ⟨3, ![16, 20480, 5632]⟩
abbrev S20480x5632 : Shape := ⟨2, ![20480, 5632]⟩

abbrev nBuf : Space → Nat
  | .hbm => 44
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S20480x2048, .bf16⟩
  | .hbm, ⟨3, _⟩ => ⟨S16x2048x5632, .f32⟩
  | .hbm, ⟨4, _⟩ => ⟨S16x2048x5632, .f32⟩
  | .hbm, ⟨5, _⟩ => ⟨S20480x2048, .f32⟩
  | .hbm, ⟨6, _⟩ => ⟨S20480, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S20480, .i32⟩
  | .hbm, ⟨11, _⟩ => ⟨S20480, .i1⟩
  | .hbm, ⟨12, _⟩ => ⟨S40x512, .i32⟩
  | .hbm, ⟨13, _⟩ => ⟨S20480, .i32⟩
  | .hbm, ⟨14, _⟩ => ⟨S20480x1, .i32⟩
  | .hbm, ⟨15, _⟩ => ⟨S16, .i32⟩
  | .hbm, ⟨16, _⟩ => ⟨S1x16, .i32⟩
  | .hbm, ⟨17, _⟩ => ⟨S20480x16, .i32⟩
  | .hbm, ⟨18, _⟩ => ⟨S20480x16, .i32⟩
  | .hbm, ⟨19, _⟩ => ⟨S20480x16, .i1⟩
  | .hbm, ⟨20, _⟩ => ⟨S20480x1, .i1⟩
  | .hbm, ⟨21, _⟩ => ⟨S20480x16, .i1⟩
  | .hbm, ⟨22, _⟩ => ⟨S20480x16, .i1⟩
  | .hbm, ⟨23, _⟩ => ⟨S_, .f32⟩
  | .hbm, ⟨24, _⟩ => ⟨S_, .f32⟩
  | .hbm, ⟨25, _⟩ => ⟨S20480x16, .f32⟩
  | .hbm, ⟨26, _⟩ => ⟨S20480x16, .f32⟩
  | .hbm, ⟨27, _⟩ => ⟨S20480x16, .f32⟩
  | .hbm, ⟨28, _⟩ => ⟨S16x5632x20480, .f32⟩
  | .hbm, ⟨29, _⟩ => ⟨S16x20480x5632, .f32⟩
  | .hbm, ⟨30, _⟩ => ⟨S16x20480x5632, .f32⟩
  | .hbm, ⟨31, _⟩ => ⟨S16x20480x5632, .f32⟩
  | .hbm, ⟨32, _⟩ => ⟨S_, .f32⟩
  | .hbm, ⟨33, _⟩ => ⟨S16x20480x5632, .f32⟩
  | .hbm, ⟨34, _⟩ => ⟨S16x20480x5632, .f32⟩
  | .hbm, ⟨35, _⟩ => ⟨S_, .f32⟩
  | .hbm, ⟨36, _⟩ => ⟨S16x20480x5632, .f32⟩
  | .hbm, ⟨37, _⟩ => ⟨S16x20480x5632, .f32⟩
  | .hbm, ⟨38, _⟩ => ⟨S16x20480x5632, .f32⟩
  | .hbm, ⟨39, _⟩ => ⟨S16x5632x20480, .f32⟩
  | .hbm, ⟨40, _⟩ => ⟨S16x20480x5632, .f32⟩
  | .hbm, ⟨41, _⟩ => ⟨S16x20480x5632, .f32⟩
  | .hbm, ⟨42, _⟩ => ⟨S20480x5632, .f32⟩
  | .hbm, ⟨43, _⟩ => ⟨S20480x5632, .bf16⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Down.lean ====
abbrev S40 : Shape := ⟨1, ![40]⟩
abbrev S1 : Shape := ⟨1, ![1]⟩
abbrev S20480x5632 : Shape := ⟨2, ![20480, 5632]⟩
abbrev S16x5632x2048 : Shape := ⟨3, ![16, 5632, 2048]⟩
abbrev S20480x1 : Shape := ⟨2, ![20480, 1]⟩
abbrev S20480x2048 : Shape := ⟨2, ![20480, 2048]⟩
abbrev S512x5632 : Shape := ⟨2, ![512, 5632]⟩
abbrev S1x5632x512 : Shape := ⟨3, ![1, 5632, 512]⟩
abbrev S512x1 : Shape := ⟨2, ![512, 1]⟩
abbrev S512x512 : Shape := ⟨2, ![512, 512]⟩
abbrev S5632x512 : Shape := ⟨2, ![5632, 512]⟩

abbrev nBuf : Space → Nat
  | .hbm => 4
  | .vmem => 9
  | .smem => 2
  | _ => 0

abbrev bufTy : (tb : Table) → Fin (tcTables nBuf tb) → BufTy
  | .hbm, ⟨0, _⟩ => ⟨S20480x5632, .bf16⟩
  | .hbm, ⟨1, _⟩ => ⟨S16x5632x2048, .f32⟩
  | .hbm, ⟨2, _⟩ => ⟨S20480x1, .f32⟩
  | .hbm, ⟨3, _⟩ => ⟨S20480x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x1, .f32⟩
  | .local _ .vmem, ⟨5, _⟩ => ⟨S512x1, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | .local _ .smem, ⟨0, _⟩ => ⟨S40, .i32⟩
  | .local _ .smem, ⟨1, _⟩ => ⟨S1, .i32⟩
  | _, _ => ⟨S20480x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 40], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S40 : Shape := ⟨1, ![40]⟩
abbrev S1 : Shape := ⟨1, ![1]⟩
abbrev S20480x5632 : Shape := ⟨2, ![20480, 5632]⟩
abbrev S16x5632x2048 : Shape := ⟨3, ![16, 5632, 2048]⟩
abbrev S20480x1 : Shape := ⟨2, ![20480, 1]⟩
abbrev S40x512 : Shape := ⟨2, ![40, 512]⟩
abbrev S20480 : Shape := ⟨1, ![20480]⟩
abbrev S16 : Shape := ⟨1, ![16]⟩
abbrev S1x16 : Shape := ⟨2, ![1, 16]⟩
abbrev S20480x16 : Shape := ⟨2, ![20480, 16]⟩
abbrev S_ : Shape := ⟨0, ![]⟩
abbrev S16x2048x20480 : Shape := ⟨3, ![16, 2048, 20480]⟩
abbrev S16x20480x2048 : Shape := ⟨3, ![16, 20480, 2048]⟩
abbrev S20480x2048 : Shape := ⟨2, ![20480, 2048]⟩

abbrev nBuf : Space → Nat
  | .hbm => 22
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S20480x5632, .bf16⟩
  | .hbm, ⟨3, _⟩ => ⟨S16x5632x2048, .f32⟩
  | .hbm, ⟨4, _⟩ => ⟨S20480x1, .f32⟩
  | .hbm, ⟨5, _⟩ => ⟨S40x512, .i32⟩
  | .hbm, ⟨6, _⟩ => ⟨S20480, .i32⟩
  | .hbm, ⟨7, _⟩ => ⟨S20480x1, .i32⟩
  | .hbm, ⟨8, _⟩ => ⟨S16, .i32⟩
  | .hbm, ⟨9, _⟩ => ⟨S1x16, .i32⟩
  | .hbm, ⟨10, _⟩ => ⟨S20480x16, .i32⟩
  | .hbm, ⟨11, _⟩ => ⟨S20480x16, .i32⟩
  | .hbm, ⟨12, _⟩ => ⟨S20480x16, .i1⟩
  | .hbm, ⟨13, _⟩ => ⟨S_, .f32⟩
  | .hbm, ⟨14, _⟩ => ⟨S_, .f32⟩
  | .hbm, ⟨15, _⟩ => ⟨S20480x16, .f32⟩
  | .hbm, ⟨16, _⟩ => ⟨S20480x16, .f32⟩
  | .hbm, ⟨17, _⟩ => ⟨S20480x16, .f32⟩
  | .hbm, ⟨18, _⟩ => ⟨S20480x5632, .f32⟩
  | .hbm, ⟨19, _⟩ => ⟨S16x2048x20480, .f32⟩
  | .hbm, ⟨20, _⟩ => ⟨S16x20480x2048, .f32⟩
  | .hbm, ⟨21, _⟩ => ⟨S20480x2048, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== InProj.lean ====
abbrev S8192x2048 : Shape := ⟨2, ![8192, 2048]⟩
abbrev S1x2048 : Shape := ⟨2, ![1, 2048]⟩
abbrev S2048x4992 : Shape := ⟨2, ![2048, 4992]⟩
abbrev S8192x4992 : Shape := ⟨2, ![8192, 4992]⟩
abbrev S512x2048 : Shape := ⟨2, ![512, 2048]⟩
abbrev S2048x1664 : Shape := ⟨2, ![2048, 1664]⟩
abbrev S512x1664 : Shape := ⟨2, ![512, 1664]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4992, .bf16⟩
  | .hbm, ⟨3, _⟩ => ⟨S8192x4992, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1664, .bf16⟩
  | .local _ .vmem, ⟨4, _⟩ => ⟨S2048x1664, .bf16⟩
  | .local _ .vmem, ⟨5, _⟩ => ⟨S512x1664, .f32⟩
  | .local _ .vmem, ⟨6, _⟩ => ⟨S512x1664, .f32⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjReferenceIdeal.lean ====
abbrev S8192x2048 : Shape := ⟨2, ![8192, 2048]⟩
abbrev S1x2048 : Shape := ⟨2, ![1, 2048]⟩
abbrev S2048x4992 : Shape := ⟨2, ![2048, 4992]⟩
abbrev S_ : Shape := ⟨0, ![]⟩
abbrev S8192 : Shape := ⟨1, ![8192]⟩
abbrev S8192x1 : Shape := ⟨2, ![8192, 1]⟩
abbrev S8192x4992 : Shape := ⟨2, ![8192, 4992]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4992, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S2048x4992, .f32⟩
  | .hbm, ⟨19, _⟩ => ⟨S8192x4992, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutProj.lean ====
abbrev S8192x512 : Shape := ⟨2, ![8192, 512]⟩
abbrev S2048x2048 : Shape := ⟨2, ![2048, 2048]⟩
abbrev S8192x2048 : Shape := ⟨2, ![8192, 2048]⟩
abbrev S1x2048 : Shape := ⟨2, ![1, 2048]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 21
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S2048x2048, .bf16⟩
  | .hbm, ⟨7, _⟩ => ⟨S8192x2048, .f32⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjReferenceIdeal.lean ====
abbrev S8192x512 : Shape := ⟨2, ![8192, 512]⟩
abbrev S2048x2048 : Shape := ⟨2, ![2048, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S2048x2048, .bf16⟩
  | .hbm, ⟨7, _⟩ => ⟨S8192x2048, .f32⟩
  | .hbm, ⟨8, _⟩ => ⟨S1x2048, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S2048x2048, .f32⟩
  | .hbm, ⟨16, _⟩ => ⟨S8192x512, .f32⟩
  | .hbm, ⟨17, _⟩ => ⟨S8192x512, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Gating.lean ====
abbrev S8192x4992 : Shape := ⟨2, ![8192, 4992]⟩
abbrev S1x512 : Shape := ⟨2, ![1, 512]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S8192x512 : Shape := ⟨2, ![8192, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 9
  | .vmem => 8
  | .smem => 0
  | _ => 0

abbrev bufTy : (tb : Table) → Fin (tcTables nBuf tb) → BufTy
  | .hbm, ⟨0, _⟩ => ⟨S8192x4992, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x128, .f32⟩
  | .hbm, ⟨7, _⟩ => ⟨S128x512, .f32⟩
  | .hbm, ⟨8, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x512, .f32⟩
  | .local _ .vmem, ⟨6, _⟩ => ⟨S512x512, .bf16⟩
  | .local _ .vmem, ⟨7, _⟩ => ⟨S512x512, .bf16⟩
  | _, _ => ⟨S8192x4992, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GatingReferenceIdeal.lean ====
abbrev S8192x4992 : Shape := ⟨2, ![8192, 4992]⟩
abbrev S1x512 : Shape := ⟨2, ![1, 512]⟩
abbrev S4x128x128 : Shape := ⟨3, ![4, 128, 128]⟩
abbrev S4x128 : Shape := ⟨2, ![4, 128]⟩
abbrev S8192x1024 : Shape := ⟨2, ![8192, 1024]⟩
abbrev S_ : Shape := ⟨0, ![]⟩
abbrev S8192x512 : Shape := ⟨2, ![8192, 512]⟩
abbrev S8192 : Shape := ⟨1, ![8192]⟩
abbrev S8192x1 : Shape := ⟨2, ![8192, 1]⟩
abbrev S64x128x4x128 : Shape := ⟨4, ![64, 128, 4, 128]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩

abbrev nBuf : Space → Nat
  | .hbm => 79
  | .vmem => 0
  | .smem => 0
  | _ => 0

abbrev bufTy : (tb : Table) → Fin (tcTables nBuf tb) → BufTy
  | .hbm, ⟨0, _⟩ => ⟨S8192x4992, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S64x128x4x128, .f32⟩
  | .hbm, ⟨53, _⟩ => ⟨S_, .i1⟩
  | .hbm, ⟨54, _⟩ => ⟨S128x128, .i1⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S_, .i1⟩
  | .hbm, ⟨62, _⟩ => ⟨S128x128, .i1⟩
  | .hbm, ⟨63, _⟩ => ⟨S128x128, .i1⟩
  | .hbm, ⟨64, _⟩ => ⟨S1x128x128, .i1⟩
  | .hbm, ⟨65, _⟩ => ⟨S_, .f32⟩
  | .hbm, ⟨66, _⟩ => ⟨S_, .f32⟩
  | .hbm, ⟨67, _⟩ => ⟨S4x128x128, .i1⟩
  | .hbm, ⟨68, _⟩ => ⟨S4x128x128, .f32⟩
  | .hbm, ⟨69, _⟩ => ⟨S4x128x128, .f32⟩
  | .hbm, ⟨70, _⟩ => ⟨S4x64x128x128, .f32⟩
  | .hbm, ⟨71, _⟩ => ⟨S64x128x4x128, .f32⟩
  | .hbm, ⟨72, _⟩ => ⟨S128x4, .f32⟩
  | .hbm, ⟨73, _⟩ => ⟨S1x128x4x1, .f32⟩
  | .hbm, ⟨74, _⟩ => ⟨S64x128x4x128, .f32⟩
  | .hbm, ⟨75, _⟩ => ⟨S64x128x4x128, .f32⟩
  | .hbm, ⟨76, _⟩ => ⟨S8192x512, .f32⟩
  | .hbm, ⟨77, _⟩ => ⟨S8192x512, .f32⟩
  | .hbm, ⟨78, _⟩ => ⟨S8192x512, .bf16⟩
  | _, _ => ⟨S8192x4992, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_v39 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_0 : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩

abbrev nD : Nat := 1
abbrev τ : Topo := Topo.v7x

variable {F : FTy → Type} [FloatOps F]
-- ==== Compress.lean ====
abbrev S8192x128 : Shape := ⟨2, ![8192, 128]⟩
abbrev S2x32x64 : Shape := ⟨3, ![2, 32, 64]⟩
abbrev S2x2048x256 : Shape := ⟨3, ![2, 2048, 256]⟩
abbrev S2x256x64 : Shape := ⟨3, ![2, 256, 64]⟩
abbrev S1x8192x128 : Shape := ⟨3, ![1, 8192, 128]⟩
abbrev S2x8192x128 : Shape := ⟨3, ![2, 8192, 128]⟩
abbrev S2x8192x2x64 : Shape := ⟨4, ![2, 8192, 2, 64]⟩
abbrev S2x2x8192x64 : Shape := ⟨4, ![2, 2, 8192, 64]⟩
abbrev S2x2x512x1024 : Shape := ⟨4, ![2, 2, 512, 1024]⟩
abbrev S2x2x1024 : Shape := ⟨3, ![2, 2, 1024]⟩
abbrev S_ : Shape := ⟨0, ![]⟩
abbrev S2x256x128 : Shape := ⟨3, ![2, 256, 128]⟩
abbrev S2x2x512x128 : Shape := ⟨4, ![2, 2, 512, 128]⟩
abbrev S1x1x512x1024 : Shape := ⟨4, ![1, 1, 512, 1024]⟩
abbrev S1x2x1024 : Shape := ⟨3, ![1, 2, 1024]⟩
abbrev S1x2048x256 : Shape := ⟨3, ![1, 2048, 256]⟩
abbrev S1x256x128 : Shape := ⟨3, ![1, 256, 128]⟩
abbrev S1x1x512x128 : Shape := ⟨4, ![1, 1, 512, 128]⟩
abbrev S512x1024 : Shape := ⟨2, ![512, 1024]⟩
abbrev S1x1x1024 : Shape := ⟨3, ![1, 1, 1024]⟩
abbrev S1x1024 : Shape := ⟨2, ![1, 1024]⟩
abbrev S1x1024x256 : Shape := ⟨3, ![1, 1024, 256]⟩
abbrev S1024x256 : Shape := ⟨2, ![1024, 256]⟩
abbrev S512x256 : Shape := ⟨2, ![512, 256]⟩
abbrev S256x128 : Shape := ⟨2, ![256, 128]⟩
abbrev S512x128 : Shape := ⟨2, ![512, 128]⟩

abbrev nBuf : Space → Nat
  | .hbm => 18
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S2x32x64, .f32⟩
  | .hbm, ⟨3, _⟩ => ⟨S2x2048x256, .f32⟩
  | .hbm, ⟨4, _⟩ => ⟨S2x256x64, .f32⟩
  | .hbm, ⟨5, _⟩ => ⟨S1x8192x128, .f32⟩
  | .hbm, ⟨6, _⟩ => ⟨S1x8192x128, .f32⟩
  | .hbm, ⟨7, _⟩ => ⟨S2x8192x128, .f32⟩
  | .hbm, ⟨8, _⟩ => ⟨S2x8192x2x64, .f32⟩
  | .hbm, ⟨9, _⟩ => ⟨S2x2x8192x64, .f32⟩
  | .hbm, ⟨10, _⟩ => ⟨S2x2x512x1024, .f32⟩
  | .hbm, ⟨11, _⟩ => ⟨S2x2x1024, .f32⟩
  | .hbm, ⟨12, _⟩ => ⟨S_, .i32⟩
  | .hbm, ⟨13, _⟩ => ⟨S_, .f32⟩
  | .hbm, ⟨14, _⟩ => ⟨S2x256x128, .f32⟩
  | .hbm, ⟨15, _⟩ => ⟨S2x256x128, .bf16⟩
  | .hbm, ⟨16, _⟩ => ⟨S2x2048x256, .bf16⟩
  | .hbm, ⟨17, _⟩ => ⟨S2x2x512x128, .bf16⟩
  | .local _ .vmem, ⟨0, _⟩ => ⟨S1x1x512x1024, .f32⟩
  | .local _ .vmem, ⟨1, _⟩ => ⟨S1x1x512x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2048x256, .bf16⟩
  | .local _ .vmem, ⟨5, _⟩ => ⟨S1x2048x256, .bf16⟩
  | .local _ .vmem, ⟨6, _⟩ => ⟨S1x256x128, .bf16⟩
  | .local _ .vmem, ⟨7, _⟩ => ⟨S1x256x128, .bf16⟩
  | .local _ .vmem, ⟨8, _⟩ => ⟨S1x1x512x128, .bf16⟩
  | .local _ .vmem, ⟨9, _⟩ => ⟨S1x1x512x128, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CompressReferenceIdeal.lean ====
abbrev S8192x128 : Shape := ⟨2, ![8192, 128]⟩
abbrev S2x32x64 : Shape := ⟨3, ![2, 32, 64]⟩
abbrev S2x2048x256 : Shape := ⟨3, ![2, 2048, 256]⟩
abbrev S2x256x64 : Shape := ⟨3, ![2, 256, 64]⟩
abbrev S511 : Shape := ⟨1, ![511]⟩
abbrev S511x1 : Shape := ⟨2, ![511, 1]⟩
abbrev S_ : Shape := ⟨0, ![]⟩
abbrev S32 : Shape := ⟨1, ![32]⟩
abbrev S1x32 : Shape := ⟨2, ![1, 32]⟩
abbrev S511x32 : Shape := ⟨2, ![511, 32]⟩
abbrev S1x2048x256 : Shape := ⟨3, ![1, 2048, 256]⟩
abbrev S2048x256 : Shape := ⟨2, ![2048, 256]⟩
abbrev S1x256x64 : Shape := ⟨3, ![1, 256, 64]⟩
abbrev S256x64 : Shape := ⟨2, ![256, 64]⟩
abbrev S1x32x64 : Shape := ⟨3, ![1, 32, 64]⟩
abbrev S32x64 : Shape := ⟨2, ![32, 64]⟩
abbrev S8192x2x64 : Shape := ⟨3, ![8192, 2, 64]⟩
abbrev S2x8192x64 : Shape := ⟨3, ![2, 8192, 64]⟩
abbrev S511x32x1 : Shape := ⟨3, ![511, 32, 1]⟩
abbrev S2x511x32x64 : Shape := ⟨4, ![2, 511, 32, 64]⟩
abbrev S1x1x32x64 : Shape := ⟨4, ![1, 1, 32, 64]⟩
abbrev S2x511x2048 : Shape := ⟨3, ![2, 511, 2048]⟩
abbrev S2x511x256 : Shape := ⟨3, ![2, 511, 256]⟩
abbrev S2x511x64 : Shape := ⟨3, ![2, 511, 64]⟩
abbrev S1x2x511x64 : Shape := ⟨4, ![1, 2, 511, 64]⟩
abbrev S2x2x511x64 : Shape := ⟨4, ![2, 2, 511, 64]⟩
abbrev S2x2x512x128 : Shape := ⟨4, ![2, 2, 512, 128]⟩

abbrev nBuf : Space → Nat
  | .hbm => 102
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S2x32x64, .f32⟩
  | .hbm, ⟨3, _⟩ => ⟨S2x2048x256, .f32⟩
  | .hbm, ⟨4, _⟩ => ⟨S2x256x64, .f32⟩
  | .hbm, ⟨5, _⟩ => ⟨S511, .i32⟩
  | .hbm, ⟨6, _⟩ => ⟨S511x1, .i32⟩
  | .hbm, ⟨7, _⟩ => ⟨S_, .i32⟩
  | .hbm, ⟨8, _⟩ => ⟨S511x1, .i32⟩
  | .hbm, ⟨9, _⟩ => ⟨S511x1, .i32⟩
  | .hbm, ⟨10, _⟩ => ⟨S32, .i32⟩
  | .hbm, ⟨11, _⟩ => ⟨S1x32, .i32⟩
  | .hbm, ⟨12, _⟩ => ⟨S511x32, .i32⟩
  | .hbm, ⟨13, _⟩ => ⟨S511x32, .i32⟩
  | .hbm, ⟨14, _⟩ => ⟨S511x32, .i32⟩
  | .hbm, ⟨15, _⟩ => ⟨S1x2048x256, .f32⟩
  | .hbm, ⟨16, _⟩ => ⟨S2048x256, .f32⟩
  | .hbm, ⟨17, _⟩ => ⟨S1x256x64, .f32⟩
  | .hbm, ⟨18, _⟩ => ⟨S256x64, .f32⟩
  | .hbm, ⟨19, _⟩ => ⟨S1x32x64, .f32⟩
  | .hbm, ⟨20, _⟩ => ⟨S32x64, .f32⟩
  | .hbm, ⟨21, _⟩ => ⟨S8192x2x64, .f32⟩
  | .hbm, ⟨22, _⟩ => ⟨S2x8192x64, .f32⟩
  | .hbm, ⟨23, _⟩ => ⟨S_, .i32⟩
  | .hbm, ⟨24, _⟩ => ⟨S511x32, .i32⟩
  | .hbm, ⟨25, _⟩ => ⟨S511x32, .i1⟩
  | .hbm, ⟨26, _⟩ => ⟨S_, .i32⟩
  | .hbm, ⟨27, _⟩ => ⟨S511x32, .i32⟩
  | .hbm, ⟨28, _⟩ => ⟨S511x32, .i32⟩
  | .hbm, ⟨29, _⟩ => ⟨S511x32, .i32⟩
  | .hbm, ⟨30, _⟩ => ⟨S511x32x1, .i32⟩
  | .hbm, ⟨31, _⟩ => ⟨S2x511x32x64, .f32⟩
  | .hbm, ⟨32, _⟩ => ⟨S1x1x32x64, .f32⟩
  | .hbm, ⟨33, _⟩ => ⟨S2x511x32x64, .f32⟩
  | .hbm, ⟨34, _⟩ => ⟨S2x511x32x64, .f32⟩
  | .hbm, ⟨35, _⟩ => ⟨S2x511x2048, .f32⟩
  | .hbm, ⟨36, _⟩ => ⟨S2x511x256, .f32⟩
  | .hbm, ⟨37, _⟩ => ⟨S2x511x256, .f32⟩
  | .hbm, ⟨38, _⟩ => ⟨S2x511x256, .f32⟩
  | .hbm, ⟨39, _⟩ => ⟨S_, .f32⟩
  | .hbm, ⟨40, _⟩ => ⟨S2x511x256, .f32⟩
  | .hbm, ⟨41, _⟩ => ⟨S2x511x256, .f32⟩
  | .hbm, ⟨42, _⟩ => ⟨S2x511x256, .f32⟩
  | .hbm, ⟨43, _⟩ => ⟨S_, .f32⟩
  | .hbm, ⟨44, _⟩ => ⟨S2x511x256, .f32⟩
  | .hbm, ⟨45, _⟩ => ⟨S2x511x256, .f32⟩
  | .hbm, ⟨46, _⟩ => ⟨S2x511x256, .f32⟩
  | .hbm, ⟨47, _⟩ => ⟨S_, .f32⟩
  | .hbm, ⟨48, _⟩ => ⟨S2x511x256, .f32⟩
  | .hbm, ⟨49, _⟩ => ⟨S2x511x256, .f32⟩
  | .hbm, ⟨50, _⟩ => ⟨S_, .f32⟩
  | .hbm, ⟨51, _⟩ => ⟨S2x511x256, .f32⟩
  | .hbm, ⟨52, _⟩ => ⟨S2x511x256, .f32⟩
  | .hbm, ⟨53, _⟩ => ⟨S2x511x256, .f32⟩
  | .hbm, ⟨54, _⟩ => ⟨S2x511x64, .f32⟩
  | .hbm, ⟨55, _⟩ => ⟨S1x2048x256, .f32⟩
  | .hbm, ⟨56, _⟩ => ⟨S2048x256, .f32⟩
  | .hbm, ⟨57, _⟩ => ⟨S1x256x64, .f32⟩
  | .hbm, ⟨58, _⟩ => ⟨S256x64, .f32⟩
  | .hbm, ⟨59, _⟩ => ⟨S1x32x64, .f32⟩
  | .hbm, ⟨60, _⟩ => ⟨S32x64, .f32⟩
  | .hbm, ⟨61, _⟩ => ⟨S8192x2x64, .f32⟩
  | .hbm, ⟨62, _⟩ => ⟨S2x8192x64, .f32⟩
  | .hbm, ⟨63, _⟩ => ⟨S_, .i32⟩
  | .hbm, ⟨64, _⟩ => ⟨S511x32, .i32⟩
  | .hbm, ⟨65, _⟩ => ⟨S511x32, .i1⟩
  | .hbm, ⟨66, _⟩ => ⟨S_, .i32⟩
  | .hbm, ⟨67, _⟩ => ⟨S511x32, .i32⟩
  | .hbm, ⟨68, _⟩ => ⟨S511x32, .i32⟩
  | .hbm, ⟨69, _⟩ => ⟨S511x32, .i32⟩
  | .hbm, ⟨70, _⟩ => ⟨S511x32x1, .i32⟩
  | .hbm, ⟨71, _⟩ => ⟨S2x511x32x64, .f32⟩
  | .hbm, ⟨72, _⟩ => ⟨S1x1x32x64, .f32⟩
  | .hbm, ⟨73, _⟩ => ⟨S2x511x32x64, .f32⟩
  | .hbm, ⟨74, _⟩ => ⟨S2x511x32x64, .f32⟩
  | .hbm, ⟨75, _⟩ => ⟨S2x511x2048, .f32⟩
  | .hbm, ⟨76, _⟩ => ⟨S2x511x256, .f32⟩
  | .hbm, ⟨77, _⟩ => ⟨S2x511x256, .f32⟩
  | .hbm, ⟨78, _⟩ => ⟨S2x511x256, .f32⟩
  | .hbm, ⟨79, _⟩ => ⟨S_, .f32⟩
  | .hbm, ⟨80, _⟩ => ⟨S2x511x256, .f32⟩
  | .hbm, ⟨81, _⟩ => ⟨S2x511x256, .f32⟩
  | .hbm, ⟨82, _⟩ => ⟨S2x511x256, .f32⟩
  | .hbm, ⟨83, _⟩ => ⟨S_, .f32⟩
  | .hbm, ⟨84, _⟩ => ⟨S2x511x256, .f32⟩
  | .hbm, ⟨85, _⟩ => ⟨S2x511x256, .f32⟩
  | .hbm, ⟨86, _⟩ => ⟨S2x511x256, .f32⟩
  | .hbm, ⟨87, _⟩ => ⟨S_, .f32⟩
  | .hbm, ⟨88, _⟩ => ⟨S2x511x256, .f32⟩
  | .hbm, ⟨89, _⟩ => ⟨S2x511x256, .f32⟩
  | .hbm, ⟨90, _⟩ => ⟨S_, .f32⟩
  | .hbm, ⟨91, _⟩ => ⟨S2x511x256, .f32⟩
  | .hbm, ⟨92, _⟩ => ⟨S2x511x256, .f32⟩
  | .hbm, ⟨93, _⟩ => ⟨S2x511x256, .f32⟩
  | .hbm, ⟨94, _⟩ => ⟨S2x511x64, .f32⟩
  | .hbm, ⟨95, _⟩ => ⟨S1x2x511x64, .f32⟩
  | .hbm, ⟨96, _⟩ => ⟨S1x2x511x64, .f32⟩
  | .hbm, ⟨97, _⟩ => ⟨S2x2x511x64, .f32⟩
  | .hbm, ⟨98, _⟩ => ⟨S_, .i32⟩
  | .hbm, ⟨99, _⟩ => ⟨S_, .f32⟩
  | .hbm, ⟨100, _⟩ => ⟨S2x2x512x128, .f32⟩
  | .hbm, ⟨101, _⟩ => ⟨S2x2x512x128, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c_5 : Ref sig .tc := ⟨.hbm, 63, rfl⟩
abbrev main_v51 : Ref sig .tc := ⟨.hbm, 64, rfl⟩
abbrev main_v52 : Ref sig .tc := ⟨.hbm, 65, rfl⟩
abbrev main_c_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_9 : Ref sig .tc := ⟨.hbm, 87, rfl⟩
abbrev main_v71 : Ref sig .tc := ⟨.hbm, 88, rfl⟩
abbrev main_v72 : Ref sig .tc := ⟨.hbm, 89, rfl⟩
abbrev main_cst_10 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_c_11 : Ref sig .tc := ⟨.hbm, 98, rfl⟩
abbrev main_call0_v0 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== Proof.Tables.Ranges.lean ====
/- What the two range predicates say of the tables' words: an expert number is below 16, and the number of row tiles in use
   is from 1 to 40. -/
module

public import proofs.«01_k».proof.Defs
public import Idealize.ShloMosaic.Lib.ReduceAll
public import Idealize.ShloMosaic.Lib.WordCmp
public import Idealize.ShloMosaic.Lib.ValueIdx

@[expose] public section

set_option maxRecDepth 16384

noncomputable section

namespace Cert.Ranges

open Idealize.ShloMosaic Idealize.ShloMosaic.ValueIdx

abbrev S40 : Shape := ⟨1, ![40]⟩
abbrev S1 : Shape := ⟨1, ![1]⟩
abbrev S_ : Shape := ⟨0, ![]⟩

/-- The experts' numbers and the number of tiles in use are in range. -/
structure InRange (te : IVec S40 32) (na : IVec S1 32) : Prop where
  expert : ∀ k : S40.Idx, (te k).toNat < 16
  pos : 1 ≤ (na (ix1 0)).toNat
  le : (na (ix1 0)).toNat ≤ 40

theorem nat_of_sge_one_sle_forty (x : BitVec 32) (h1 : IntOp.cmpi .sge x 1#32 = 1#1) (h2 : IntOp.cmpi .sle x 40#32 = 1#1) :
    1 ≤ x.toNat ∧ x.toNat ≤ 40 := by
  rw [WordCmp.cmpi_sge_eq, WordCmp.ofBool_decide_eq_one_iff] at h1
  rw [WordCmp.cmpi_sle_eq, WordCmp.ofBool_decide_eq_one_iff] at h2
  have e1 : (1#32 : BitVec 32).toInt = 1 := rfl
  have e2 : (40#32 : BitVec 32).toInt = 40 := rfl
  rw [e1] at h1; rw [e2] at h2
  have := BitVec.toInt_eq_toNat_cond x
  split at this <;> omega

theorem inRange_of_predicate (te : IVec S40 32) (na : IVec S1 32) (z s : IVec S40 32) (one : IVec S_ 1)
    (hr : S40.ReducesTo [0] S_) (hn : 0 < S_.numel) (hc : S1.ShapeCasts S_) (hz : z = fun _ => 0#32) (hs : s = fun _ => 16#32)
    (h : andi (andi (Host.reduce IntOp.andi (andi (cmpi .sge te z) (cmpi .slt te s)) one hr hn)
        (cmpi .sge (shapeCast S_ na hc) (constantI S_ 32 1#32))) (cmpi .sle (shapeCast S_ na hc) (constantI S_ 32 40#32)) = fun _ => 1#1) :
    InRange te na := by
  subst hz hs
  have h0 := congrFun h ix0
  obtain ⟨h01, h2⟩ := IntOp.andi_eq_one.1 h0
  obtain ⟨h3, h1⟩ := IntOp.andi_eq_one.1 h01
  have e : ∀ j : S1.Idx, j = ix1 0 := fun j => by
    funext a; match a with | ⟨0, _⟩ => exact Fin.ext (by have := (j 0).isLt; show (j 0).val = 0; change (j 0).val < 1 at this; omega)
  have hb := nat_of_sge_one_sle_forty (shapeCast S_ na hc ix0) h1 h2
  have en : shapeCast S_ na hc ix0 = na (ix1 0) := congrArg na (e _)
  rw [en] at hb
  haveI : Subsingleton S_.Idx := ⟨fun a b => by funext x; exact x.elim0⟩
  refine ⟨fun k => ?_, hb.1, hb.2⟩
  have hk := Host.reduce_andi_all _ _ hr hn ix0 h3 k
  have hk' : IntOp.andi (IntOp.cmpi .sge (te k) 0#32) (IntOp.cmpi .slt (te k) (BitVec.ofNat 32 16)) = 1#1 := hk
  rw [WordCmp.andi_sge_zero_slt_ofNat (by decide), WordCmp.ofBool_decide_eq_one_iff] at hk'
  exact hk'

variable {F : FTy → Type} [FloatOps F]

theorem of_up_tables [Cert.Pre_up_tables.Facts] (te : IVec S40 32) (na : IVec S1 32) (a : FVec F Cert.Pre_up_tables.S20480x2048 .bf16)
    (b c : FVec F Cert.Pre_up_tables.S16x2048x5632 .f32) (h : Cert.Pre_up_tables.fn te na a b c = fun _ => 1#1) : InRange te na :=
  inRange_of_predicate te na _ _ _ _ _ _ rfl rfl h

theorem of_down_tables [Cert.Pre_down_tables.Facts] (te : IVec S40 32) (na : IVec S1 32) (a : FVec F Cert.Pre_down_tables.S20480x5632 .bf16)
    (b : FVec F Cert.Pre_down_tables.S16x5632x2048 .f32) (c : FVec F Cert.Pre_down_tables.S20480x1 .f32)
    (h : Cert.Pre_down_tables.fn te na a b c = fun _ => 1#1) : InRange te na :=
  inRange_of_predicate te na _ _ _ _ _ _ rfl rfl h

theorem minsi_pred_nat : ∀ (i : Fin 40) (n : Fin 41), 1 ≤ n.val →
    (IntOp.minsi (BitVec.ofNat 32 i.val) (IntOp.subi (BitVec.ofNat 32 n.val) 1#32)).toNat = min i.val (n.val - 1) := by decide +kernel

/-- The row tile the kernels read at row step `i` when `x` tiles are in use: `i`, or the last in use. -/
theorem minsi_pred {i : Nat} (hi : i < 40) {x : BitVec 32} (h1 : 1 ≤ x.toNat) (h2 : x.toNat ≤ 40) :
    (Scalar.minsi (BitVec.ofNat 32 i) (Scalar.subi x 1#32)).toNat = min i (x.toNat - 1) := by
  have h := minsi_pred_nat ⟨i, hi⟩ ⟨x.toNat, by omega⟩ h1
  have e : BitVec.ofNat 32 x.toNat = x := BitVec.ofNat_toNat _ _ |>.trans (BitVec.setWidth_eq x)
  simp only [e] at h
  exact h

end Cert.Ranges

end
-- ==== Proof.UpIdeal.Kit.lean ====
/- The launch of the up projection's pipeline, at any contents of its two prefetched tables that keep every block
   inside its array: what the region finds in the arrays, the blocks each grid point reads, the branch condition of the
   body, and the staging memrefs and scratch the body is called with. -/
module

public import proofs.«01_k».proof.Proof.Gen.UpIdeal
public import proofs.«01_k».proof.Proof.Gen.UpIdeal.Launch
public import proofs.«01_k».proof.Proof.Gen.UpIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A TensorCore buffer of core `c` when the region is entered: as launched. -/
abbrev V (c : Dev nD) (b : Ref sig .tc) : Buf (Elt F) ((c : Thread nD τ).loc b) := m ((c : Thread nD τ).loc b)

set_option maxHeartbeats 800000 in
/-- The host program up to the region is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents, read off the launch memory of the one device. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables keep every block inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as a memref of its whole buffer. -/
abbrev tbM0 : Memref sig .tc .smem S40 .i32 := Memref.whole main_arg0
abbrev htbM0 : tbM0.IsWhole := Memref.isWhole_whole _
abbrev tbM1 : Memref sig .tc .smem S1 .i32 := Memref.whole main_arg1
abbrev htbM1 : tbM1.IsWhole := Memref.isWhole_whole _

/-- A table's contents on core `c`, and the half of the table the body may read. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t` of the array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input's staging buffer holds its block at every point, for data whose body leaves the inputs in place. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's one branch: the first row tile, or a tile whose expert `v2` is not its predecessor's, `v6`. -/
abbrev starts (i : grid0.Coords) (v2 : BitVec 32) (v6 : BitVec 32) : Prop := (Scalar.cmpi .ne (Scalar.extui (Scalar.ori (Scalar.cmpi .eq (BitVec.ofNat 32 (i 1).val) 0#32) (Scalar.cmpi .ne v2 v6))) 0#32) = 1#1

/-- The tile is active: its row tile lies below the table's count. -/
abbrev active (i : grid0.Coords) (v0 : BitVec 32) : Prop := k0_cond1 i v0 = 1#1
/-- The count of active tiles, as the body reads it. -/
abbrev count (c : Dev nD) (x : TbBuf (F := F) c tbM1) : BitVec 32 :=
  tbM1.view.readAt (Elt F) (Rect.unit (s := S1) ![0] S1.size inb_S1_S1_0).toLoadRect x (Shape.Idx.first (numel1_S1.symm ▸ Nat.one_pos))

/-- The two words of the expert table the branch reads. -/
abbrev word (c : Dev nD) (i : grid0.Coords) (x : TbBuf (F := F) c tbM0) : BitVec 32 :=
  tbM0.view.readAt (Elt F) (Rect.unit (s := S40) (k0_off2 i) S1.size (k0_off2_inb i)).toLoadRect x (Shape.Idx.first (numel1_S1.symm ▸ Nat.one_pos))
abbrev wordBefore (c : Dev nD) (i : grid0.Coords) (x : TbBuf (F := F) c tbM0) : BitVec 32 :=
  tbM0.view.readAt (Elt F) (Rect.unit (s := S40) (k0_off3 i) S1.size (k0_off3_inb i)).toLoadRect x (Shape.Idx.first (numel1_S1.symm ▸ Nat.one_pos))

/-- Each window's staging memref at point `t`. -/
abbrev ms0 (hO : Ok m) (t : Fin (cfgM m hO).N) : Memref sig .tc .vmem S512x2048 .bf16 := spec0_0.stage ((cfgM m hO).slots t 0)
abbrev ms1 (hO : Ok m) (t : Fin (cfgM m hO).N) : Memref sig .tc .vmem S1x2048x512 .f32 := spec0_1.stage ((cfgM m hO).slots t 1)
abbrev ms2 (hO : Ok m) (t : Fin (cfgM m hO).N) : Memref sig .tc .vmem S1x2048x512 .f32 := spec0_2.stage ((cfgM m hO).slots t 2)
abbrev ms3 (hO : Ok m) (t : Fin (cfgM m hO).N) : Memref sig .tc .vmem S512x512 .bf16 := spec0_3.stage ((cfgM m hO).slots t 3)
/-- The scratches that keep the current expert's gate and up weights in bf16. -/
abbrev scM0 : Memref sig .tc .vmem S2048x512 .bf16 := Memref.whole cc0_scratch0
abbrev scM1 : Memref sig .tc .vmem S2048x512 .bf16 := Memref.whole cc0_scratch1

/-- The body at point `t`, as the pipeline calls it. -/
abbrev bodyAt (a : (pcfg0 (F := F)).Adm) (t : Fin (cfg0 a).N) : Prog (TpuEff nD τ sig (Elt F) Λ₀ .tc) PUnit :=
  cc0_swiglu_up (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

/-- The output is written back at every point, whatever the tables hold. -/
theorem flush3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- What the core keeps between points beside the tables: the scratch at some contents and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.UpIdeal.Hand

end
-- ==== Proof.UpIdeal.Run.lean ====
/- One run of the up projection's body, in its three cases: an active tile where an expert's run of row tiles starts
   refills the two scratches from the weights' blocks, an active tile elsewhere reads them as they were left, and an
   inactive tile writes zero. -/
module

public import proofs.«01_k».proof.Proof.UpIdeal.Kit

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- An active tile where an expert's run starts: the scratches end at the blocks' weights in bf16, the output at the product. -/
theorem run_starts (c : Dev nD) (i : grid0.Coords) (arg4 : Memref sig .tc .vmem S512x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S512x512 .bf16) (harg7 : arg7.IsWhole) (arg8 : Memref sig .tc .vmem S2048x512 .bf16) (harg8 : arg8.IsWhole) (arg9 : Memref sig .tc .vmem S2048x512 .bf16) (harg9 : arg9.IsWhole)
    (x0 : Vec F S512x2048 .bf16) (x1 : Vec F S1x2048x512 .f32) (x2 : Vec F S1x2048x512 .f32) (xt0 : TbBuf (F := F) c tbM0) (xt1 : TbBuf (F := F) c tbM1)
    (hc0 : active i (count c xt1)) (hc1 : ¬ k0_cond3 i (count c xt1) = 1#1) (hc2 : starts i (word c i xt0) (wordBefore c i xt0)) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare (k0_pay3 x0 (k0_pay1 x1) (k0_pay2 x2)) ∗ owns (c : Thread nD τ) arg8 fullShare (k0_pay1 x1) ∗ owns (c : Thread nD τ) arg9 fullShare (k0_pay2 x2) ∗ tbPt c tbM0 xt0 ∗ tbPt c tbM1 xt1) -∗ K ⟨⟩))
      ⊢ wp frame (wpE (defs₀ (F := F)) Variants.none c none) E (cc0_swiglu_up i tbM0 htbM0 tbM1 htbM1 arg4 harg4 arg5 harg5 arg6 harg6 arg7 harg7 arg8 harg8 arg9 harg9) K := by
  simp only [cc0_swiglu_up_eq_skeleton]; unfold cc0_swiglu_up_skel
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, HT1, Hk⟩
  obtain rfl := harg4.eq_unread hf0; obtain rfl := harg5.eq_unread hf1; obtain rfl := harg6.eq_unread hf2
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    refine (View.read_writes_full _ _ _ _ _).trans ?_
    rw [View.readAt_full, harg4.read_unread]
    unfold run_starts.sl.v20 run_starts.sl.v24 run_starts.sl.HS0_1 run_starts.sl.HS1_1
    refine congrArg₂ (k0_pay3 x0) ?_ ?_
    · refine (View.readCov_full _ _ _ _ _).trans ?_
      rw [View.readAt_full, harg5.read_unread]
    · refine (View.readCov_full _ _ _ _ _).trans ?_
      rw [View.readAt_full, harg6.read_unread]
  isplitl [HS0]
  · iexists _; isplitr; swap; · iexact HS0
    ipureintro
    unfold run_starts.sl.HS0_1
    refine (View.read_writes_full _ _ _ _ _).trans ?_
    rw [View.readAt_full, harg5.read_unread]
  isplitl [HS1]
  · iexists _; isplitr; swap; · iexact HS1
    ipureintro
    unfold run_starts.sl.HS1_1
    refine (View.read_writes_full _ _ _ _ _).trans ?_
    rw [View.readAt_full, harg6.read_unread]
  isplitl [HT0]; · iexact HT0
  iexact HT1

set_option maxHeartbeats 1000000 in
/-- An active tile elsewhere: the scratches keep what they hold, and the output ends at their product. -/
theorem run_continues (c : Dev nD) (i : grid0.Coords) (arg4 : Memref sig .tc .vmem S512x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S512x512 .bf16) (harg7 : arg7.IsWhole) (arg8 : Memref sig .tc .vmem S2048x512 .bf16) (harg8 : arg8.IsWhole) (arg9 : Memref sig .tc .vmem S2048x512 .bf16) (harg9 : arg9.IsWhole)
    (x0 : Vec F S512x2048 .bf16) (x1 : Vec F S1x2048x512 .f32) (x2 : Vec F S1x2048x512 .f32) (xt0 : TbBuf (F := F) c tbM0) (xt1 : TbBuf (F := F) c tbM1)
    (y0 : Vec F S2048x512 .bf16) (y1 : Vec F S2048x512 .bf16) (hc0 : active i (count c xt1)) (hc1 : ¬ k0_cond3 i (count c xt1) = 1#1) (hc2 : ¬ starts i (word c i xt0) (wordBefore c i xt0)) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare y0 ∗ owns (c : Thread nD τ) arg9 fullShare y1 ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare (k0_pay3 x0 y0 y1) ∗ owns (c : Thread nD τ) arg8 fullShare y0 ∗ owns (c : Thread nD τ) arg9 fullShare y1 ∗ tbPt c tbM0 xt0 ∗ tbPt c tbM1 xt1) -∗ K ⟨⟩))
      ⊢ wp frame (wpE (defs₀ (F := F)) Variants.none c none) E (cc0_swiglu_up i tbM0 htbM0 tbM1 htbM1 arg4 harg4 arg5 harg5 arg6 harg6 arg7 harg7 arg8 harg8 arg9 harg9) K := by
  simp only [cc0_swiglu_up_eq_skeleton]; unfold cc0_swiglu_up_skel
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, HT0, HT1, Hk⟩
  obtain rfl := harg4.eq_unread hf0; obtain rfl := harg5.eq_unread hf1; obtain rfl := harg6.eq_unread hf2; obtain rfl := harg8.eq_unread hs0; obtain rfl := harg9.eq_unread hs1
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    refine (View.read_writes_full _ _ _ _ _).trans ?_
    rw [View.readAt_full, View.readAt_full, View.readAt_full, harg4.read_unread, harg8.read_unread, harg9.read_unread]
  isplitl [HS0]
  · iexists _; isplitr; · ipureintro; exact harg8.read_unread _
    iexact HS0
  isplitl [HS1]
  · iexists _; isplitr; · ipureintro; exact harg9.read_unread _
    iexact HS1
  isplitl [HT0]; · iexact HT0
  iexact HT1

set_option maxHeartbeats 1000000 in
/-- An inactive tile: the scratches keep what they hold, and the output ends at zero. -/
theorem run_inactive (c : Dev nD) (i : grid0.Coords) (arg4 : Memref sig .tc .vmem S512x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S512x512 .bf16) (harg7 : arg7.IsWhole) (arg8 : Memref sig .tc .vmem S2048x512 .bf16) (harg8 : arg8.IsWhole) (arg9 : Memref sig .tc .vmem S2048x512 .bf16) (harg9 : arg9.IsWhole)
    (x0 : Vec F S512x2048 .bf16) (x1 : Vec F S1x2048x512 .f32) (x2 : Vec F S1x2048x512 .f32) (xt0 : TbBuf (F := F) c tbM0) (xt1 : TbBuf (F := F) c tbM1)
    (y0 : Vec F S2048x512 .bf16) (y1 : Vec F S2048x512 .bf16) (hc0 : ¬ active i (count c xt1)) (hc1 : k0_cond3 i (count c xt1) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare y0 ∗ owns (c : Thread nD τ) arg9 fullShare y1 ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare k0_pay4 ∗ owns (c : Thread nD τ) arg8 fullShare y0 ∗ owns (c : Thread nD τ) arg9 fullShare y1 ∗ tbPt c tbM0 xt0 ∗ tbPt c tbM1 xt1) -∗ K ⟨⟩))
      ⊢ wp frame (wpE (defs₀ (F := F)) Variants.none c none) E (cc0_swiglu_up i tbM0 htbM0 tbM1 htbM1 arg4 harg4 arg5 harg5 arg6 harg6 arg7 harg7 arg8 harg8 arg9 harg9) K := by
  simp only [cc0_swiglu_up_eq_skeleton]; unfold cc0_swiglu_up_skel
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, HT0, HT1, Hk⟩
  obtain rfl := harg4.eq_unread hf0; obtain rfl := harg5.eq_unread hf1; obtain rfl := harg6.eq_unread hf2; obtain rfl := harg8.eq_unread hs0; obtain rfl := harg9.eq_unread hs1
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact View.read_writes_full _ _ _ _ _
  isplitl [HS0]
  · iexists _; isplitr; · ipureintro; exact harg8.read_unread _
    iexact HS0
  isplitl [HS1]
  · iexists _; isplitr; · ipureintro; exact harg9.read_unread _
    iexact HS1
  isplitl [HT0]; · iexact HT0
  iexact HT1

end Cert.UpIdeal.Hand

end
-- ==== Proof.UpIdeal.Tables.lean ====
/- The two tables read at a grid point: the expert of the point's row tile, the number of active tiles, and the block
   indices the windows take from them. -/
module

public import proofs.«01_k».proof.Proof.UpIdeal.Kit
public import Idealize.ShloMosaic.Lib.ValueIdx

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row tile of a grid point, as an index of the expert table, and its predecessor. -/
def tile (i : grid0.Coords) : S40.Idx := ix1 ⟨(i 1).val, (i 1).isLt⟩
def tileBefore (i : grid0.Coords) : S40.Idx := ix1 ⟨(i 1).val - 1, lt_of_le_of_lt (Nat.sub_le _ _) (i 1).isLt⟩

theorem off2_eq : ∀ i : grid0.Coords, k0_off2 i = ![(i 1).val] := by decide +kernel

theorem off3_eq : ∀ i : grid0.Coords, k0_off3 i = ![(i 1).val - 1] := by decide +kernel

theorem word_eq (c : Dev nD) (i : grid0.Coords) (x : TbBuf (F := F) c tbM0) : word c i x = x (tile i) := by
  unfold word
  rw [View.readAt_apply]
  refine congrArg x (funext fun a => Fin.ext ?_)
  match a with
  | ⟨0, _⟩ => show k0_off2 i 0 + 1 * 0 = (i 1).val; rw [off2_eq]; rfl

theorem wordBefore_eq (c : Dev nD) (i : grid0.Coords) (x : TbBuf (F := F) c tbM0) : wordBefore c i x = x (tileBefore i) := by
  unfold wordBefore
  rw [View.readAt_apply]
  refine congrArg x (funext fun a => Fin.ext ?_)
  match a with
  | ⟨0, _⟩ => show k0_off3 i 0 + 1 * 0 = (i 1).val - 1; rw [off3_eq]; rfl

theorem count_eq (c : Dev nD) (x : TbBuf (F := F) c tbM1) : count c x = x (ix1 0) := by
  unfold count
  rw [View.readAt_apply]
  refine congrArg x (funext fun a => Fin.ext ?_)
  match a with
  | ⟨0, _⟩ => rfl

theorem active_iff {i : grid0.Coords} {v : BitVec 32} : active i v ↔ (BitVec.ofNat 32 (i 1).val).toInt < v.toInt := by
  unfold active k0_cond1
  simp only [WordCmp.scalar_cmpi_eq, WordCmp.cmpi_ne_eq, WordCmp.cmpi_slt_eq, WordCmp.scalar_extui_ofBool, WordCmp.ofBool_eq_one_iff]
  by_cases h : (BitVec.ofNat 32 (i 1).val).toInt < v.toInt <;> simp [h]

/-- The two conditions on the count exclude each other. -/
theorem inactive_iff {i : grid0.Coords} {v : BitVec 32} : k0_cond3 i v = 1#1 ↔ ¬ active i v := by
  rw [active_iff]
  unfold k0_cond3
  simp only [WordCmp.scalar_cmpi_eq, WordCmp.cmpi_ne_eq, WordCmp.cmpi_sge_eq, WordCmp.scalar_extui_ofBool, WordCmp.ofBool_eq_one_iff]
  by_cases h : (BitVec.ofNat 32 (i 1).val).toInt < v.toInt
  · simp [h]
  · simp [not_lt.mp h]

/-- The branch not taken: not the first row tile, and the predecessor has the same expert. -/
theorem not_starts {i : grid0.Coords} {v2 v6 : BitVec 32} (h : ¬ starts i v2 v6) : (i 1).val ≠ 0 ∧ v2 = v6 := by
  have hb : (i 1).val < 2 ^ 32 := lt_of_lt_of_le (i 1).isLt (by decide)
  unfold starts at h
  simp only [WordCmp.scalar_cmpi_eq, WordCmp.scalar_ori_eq, WordCmp.cmpi_ne_eq, WordCmp.cmpi_eq_eq,
    WordCmp.ori_ofBool, WordCmp.scalar_extui_ofBool, WordCmp.ofBool_eq_one_iff] at h
  have e0 : (0#32 : BitVec 32) = BitVec.ofNat 32 0 := rfl
  by_cases h0 : (i 1).val = 0
  · exfalso; apply h; rw [h0]; simp
  · refine ⟨h0, ?_⟩
    by_contra hne
    apply h; simp [hne]

/-- Window 1's block index: the tile's expert and the column tile. -/
theorem transform_1_eq (pf : pre0.Contents (Elt F)) (i : grid0.Coords) :
    cc0_transform_1 k0_off1_inb numel1_S1 pf i = ![(show BitVec 32 from pf 0 (tile i)).toNat, 0, (i 0).val] := by
  have hb : (i 0).val < 2 ^ 32 := lt_of_lt_of_le (i 0).isLt (by decide)
  unfold cc0_transform_1
  have e : pf.at 0 (Rect.unit (s := S40) ![(Scalar.indexCast (BitVec.ofNat 32 (i 1).val)).toNat] S1.size (k0_off1_inb i)) numel1_S1 = pf 0 (tile i) := by
    refine congrArg (pf 0) (funext fun a => Fin.ext ?_)
    match a with
    | ⟨0, _⟩ => show k0_off1 i 0 + 1 * 0 = (i 1).val; rw [k0_off1_eq]; rfl
  dsimp only
  rw [e]
  congr 1
  funext a
  match a with
  | ⟨0, _⟩ => rfl
  | ⟨1, _⟩ => show (BitVec.ofNat 32 (i 0).val).toNat = _; rw [BitVec.toNat_ofNat, Nat.mod_eq_of_lt hb]; rfl

/-- Window 2's block index: the tile's expert and the column tile. -/
theorem transform_2_eq (pf : pre0.Contents (Elt F)) (i : grid0.Coords) :
    cc0_transform_2 k0_off1_inb numel1_S1 pf i = ![(show BitVec 32 from pf 0 (tile i)).toNat, 0, (i 0).val] := by
  have hb : (i 0).val < 2 ^ 32 := lt_of_lt_of_le (i 0).isLt (by decide)
  unfold cc0_transform_2
  have e : pf.at 0 (Rect.unit (s := S40) ![(Scalar.indexCast (BitVec.ofNat 32 (i 1).val)).toNat] S1.size (k0_off1_inb i)) numel1_S1 = pf 0 (tile i) := by
    refine congrArg (pf 0) (funext fun a => Fin.ext ?_)
    match a with
    | ⟨0, _⟩ => show k0_off1 i 0 + 1 * 0 = (i 1).val; rw [k0_off1_eq]; rfl
  dsimp only
  rw [e]
  congr 1
  funext a
  match a with
  | ⟨0, _⟩ => rfl
  | ⟨1, _⟩ => show (BitVec.ofNat 32 (i 0).val).toNat = _; rw [BitVec.toNat_ofNat, Nat.mod_eq_of_lt hb]; rfl

/-- Window 0's block index: the row tile, cut at the last active one. -/
theorem transform_0_eq (pf : pre0.Contents (Elt F)) (i : grid0.Coords) :
    cc0_transform_0 inb_S1_S1_0 numel1_S1 pf i
      = ![(Scalar.minsi (BitVec.ofNat 32 (i 1).val) (Scalar.subi (show BitVec 32 from pf 1 (ix1 0)) 1#32)).toNat, 0] := by
  unfold cc0_transform_0
  have e : pf.at 1 (Rect.unit (s := S1) ![0] S1.size inb_S1_S1_0) numel1_S1 = pf 1 (ix1 0) := by
    refine congrArg (pf 1) (funext fun a => Fin.ext ?_)
    match a with
    | ⟨0, _⟩ => rfl
  dsimp only
  rw [e]
  rfl

end Cert.UpIdeal.Hand

end
-- ==== Proof.UpIdeal.Body.lean ====
/- The up projection's body at every grid point, with what the two scratches hold carried from an active point to the next:
   the gate and up weights of the current expert in bf16. From it the run of the whole pipeline: the result array, the arguments unchanged, and
   every semaphore at zero. -/
module

public import proofs.«01_k».proof.Proof.UpIdeal.Run
public import proofs.«01_k».proof.Proof.UpIdeal.Tables
public import Idealize.ShloMosaic.Lib.Claim

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile of point `t` is active. -/
abbrev act (hO : Ok m) (c : Dev nD) (t : Fin (cfgM m hO).N) : Prop := active (grid0.coords t) (count c (tbl m 1))

/-- What the body leaves in the output's buffer at point `t`. -/
def outAt (hO : Ok m) (c : Dev nD) (t : Fin (cfgM m hO).N) : Vec F S512x512 .bf16 :=
  if act m hO c t then k0_pay3 (iblk m hO c 0 t) (k0_pay1 (iblk m hO c 1 t)) (k0_pay2 (iblk m hO c 2 t)) else k0_pay4

/-- What the two scratches hold after the points before `p`: the weights of the last point, if its tile was active. -/
def Held (hO : Ok m) (c : Dev nD) (p : ℕ) (s0 s1 : Vec F S2048x512 .bf16) : Prop :=
  ∀ q : Fin (cfgM m hO).N, q.val + 1 = p → act m hO c q → s0 = k0_pay1 (iblk m hO c 1 q) ∧ s1 = k0_pay2 (iblk m hO c 2 q)

/-- The data of the pipeline on core `c`: the arrays as found; the inputs' buffers at their blocks after each point and the
    output's at `outAt`; between points the scratches are as `Held` says, beside the generator register and the tables. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ p := iprop((∃ s0, ∃ s1, owns (c : Thread nD τ) scM0 fullShare s0 ∗ owns (c : Thread nD τ) scM1 fullShare s1 ∗ ⌜Held m hO c p.val s0 s1⌝)
    ∗ (∃ r, prngReg c r) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = outAt m hO c t := by dsimp only [dats]; try rfl

theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d

/-! ## The weights' block where an expert's run continues -/

theorem coords0 (t : Fin grid0.N) : (grid0.coords t 0).val = t.val / 40 % 11 := Pipeline.Grid.coords_val t 0 (by decide) rfl
theorem coords1 (t : Fin grid0.N) : (grid0.coords t 1).val = t.val / 1 % 40 := Pipeline.Grid.coords_val t 1 (by decide) rfl

/-- Off the first row tile, the point before has the same column tile and the row tile before. -/
theorem coords_before {q t : Fin grid0.N} (h : q.val + 1 = t.val) (h1 : (grid0.coords t 1).val ≠ 0) :
    (grid0.coords q 0).val = (grid0.coords t 0).val ∧ (grid0.coords q 1).val = (grid0.coords t 1).val - 1 := by
  have := coords0 t; have := coords1 t; have := coords0 q; have := coords1 q
  omega

/-- One block index, one block. -/
theorem iblk1_congr (hO : Ok m) (c : Dev nD) {q t : Fin (cfgM m hO).N}
    (h : ((cfgM m hO).win 1).index q = ((cfgM m hO).win 1).index t) : iblk m hO c 1 q = iblk m hO c 1 t :=
  (show (dats m hO 0 c).fetched 1 q (iblk m hO c 1 t) = iblk m hO c 1 q by unfold Dat.fetched Dat.blockOf iblk; rw [A_eq]; rfl).symm.trans
    (((dats m hO 0 c).fetched_congr 1 h rfl (iblk m hO c 1 t)).trans
      (show (dats m hO 0 c).fetched 1 t (iblk m hO c 1 t) = iblk m hO c 1 t by unfold Dat.fetched Dat.blockOf iblk; rw [A_eq]; rfl))

theorem iblk2_congr (hO : Ok m) (c : Dev nD) {q t : Fin (cfgM m hO).N}
    (h : ((cfgM m hO).win 2).index q = ((cfgM m hO).win 2).index t) : iblk m hO c 2 q = iblk m hO c 2 t :=
  (show (dats m hO 0 c).fetched 2 q (iblk m hO c 2 t) = iblk m hO c 2 q by unfold Dat.fetched Dat.blockOf iblk; rw [A_eq]; rfl).symm.trans
    (((dats m hO 0 c).fetched_congr 2 h rfl (iblk m hO c 2 t)).trans
      (show (dats m hO 0 c).fetched 2 t (iblk m hO c 2 t) = iblk m hO c 2 t by unfold Dat.fetched Dat.blockOf iblk; rw [A_eq]; rfl))

/-- Where the branch is not taken the point before read the same weights. -/
theorem iblk1_before (hO : Ok m) (c : Dev nD) {q t : Fin (cfgM m hO).N} (h : q.val + 1 = t.val)
    (hs : ¬ starts (grid0.coords t) (word c (grid0.coords t) (tbl m 0)) (wordBefore c (grid0.coords t) (tbl m 0))) :
    iblk m hO c 1 q = iblk m hO c 1 t := by
  obtain ⟨h1, hw⟩ := not_starts hs
  replace hw : tbl m 0 (tile (grid0.coords t)) = tbl m 0 (tileBefore (grid0.coords t)) :=
    (word_eq c _ _).symm.trans (hw.trans (wordBefore_eq c _ _))
  obtain ⟨e0, e1⟩ := coords_before h h1
  refine iblk1_congr m hO c ?_
  show cc0_transform_1 k0_off1_inb numel1_S1 (tbl m) (grid0.coords q) = cc0_transform_1 k0_off1_inb numel1_S1 (tbl m) (grid0.coords t)
  rw [transform_1_eq, transform_1_eq, e0, hw]
  have : tile (grid0.coords q) = tileBefore (grid0.coords t) := by unfold tile tileBefore; congr 1; exact Fin.ext e1
  rw [this]

theorem iblk2_before (hO : Ok m) (c : Dev nD) {q t : Fin (cfgM m hO).N} (h : q.val + 1 = t.val)
    (hs : ¬ starts (grid0.coords t) (word c (grid0.coords t) (tbl m 0)) (wordBefore c (grid0.coords t) (tbl m 0))) :
    iblk m hO c 2 q = iblk m hO c 2 t := by
  obtain ⟨h1, hw⟩ := not_starts hs
  replace hw : tbl m 0 (tile (grid0.coords t)) = tbl m 0 (tileBefore (grid0.coords t)) :=
    (word_eq c _ _).symm.trans (hw.trans (wordBefore_eq c _ _))
  obtain ⟨e0, e1⟩ := coords_before h h1
  refine iblk2_congr m hO c ?_
  show cc0_transform_2 k0_off1_inb numel1_S1 (tbl m) (grid0.coords q) = cc0_transform_2 k0_off1_inb numel1_S1 (tbl m) (grid0.coords t)
  rw [transform_2_eq, transform_2_eq, e0, hw]
  have : tile (grid0.coords q) = tileBefore (grid0.coords t) := by unfold tile tileBefore; congr 1; exact Fin.ext e1
  rw [this]

/-- There is a point before a point at which the branch is not taken. -/
theorem exists_before (t : Fin grid0.N) {v2 v6 : BitVec 32} (hs : ¬ starts (grid0.coords t) v2 v6) : ∃ q : Fin grid0.N, q.val + 1 = t.val := by
  have h1 := (not_starts hs).1
  have := coords1 t
  exact ⟨⟨t.val - 1, by omega⟩, by show t.val - 1 + 1 = t.val; omega⟩

theorem held_last (hO : Ok m) (c : Dev nD) (t : Fin (cfgM m hO).N) :
    Held m hO c t.succ.val (k0_pay1 (iblk m hO c 1 t)) (k0_pay2 (iblk m hO c 2 t)) := by
  intro q hq _
  have e : t = q := (Fin.ext (Nat.succ.inj hq)).symm
  rw [e]
  exact ⟨rfl, rfl⟩

theorem held_inactive (hO : Ok m) (c : Dev nD) (t : Fin (cfgM m hO).N) (s0 s1 : Vec F S2048x512 .bf16) (h : ¬ act m hO c t) :
    Held m hO c t.succ.val s0 s1 := by
  intro q hq hqa
  have e : t = q := (Fin.ext (Nat.succ.inj hq)).symm
  rw [e] at h
  exact absurd hqa h

/-- The row tile before an active one is active. -/
theorem active_before {q t : Fin grid0.N} (h : q.val + 1 = t.val) (h1 : (grid0.coords t 1).val ≠ 0) {v : BitVec 32}
    (ha : active (grid0.coords t) v) : active (grid0.coords q) v := by
  rw [active_iff] at ha ⊢
  obtain ⟨-, e1⟩ := coords_before h h1
  have ht := (grid0.coords t 1).isLt
  have hb : (grid0.coords t 1).val < 40 := ht
  rw [WordCmp.toInt_ofNat_of_lt (by omega)] at ha ⊢
  omega

theorem held_kept (hO : Ok m) (c : Dev nD) (t : Fin (cfgM m hO).N) (s0 s1 : Vec F S2048x512 .bf16)
    (hs : Held m hO c t.castSucc.val s0 s1) (ha : act m hO c t)
    (h0 : ¬ starts (grid0.coords t) (word c (grid0.coords t) (tbl m 0)) (wordBefore c (grid0.coords t) (tbl m 0))) :
    s0 = k0_pay1 (iblk m hO c 1 t) ∧ s1 = k0_pay2 (iblk m hO c 2 t) := by
  obtain ⟨q, hq⟩ := exists_before t h0
  have e1 : iblk m hO c 1 q = iblk m hO c 1 t := iblk1_before m hO c hq h0
  have e2 : iblk m hO c 2 q = iblk m hO c 2 t := iblk2_before m hO c hq h0
  rw [← e1, ← e2]
  exact hs q (hq.trans (Fin.val_castSucc t).symm) (active_before hq (not_starts h0).1 ha)

theorem outAt_active (hO : Ok m) (c : Dev nD) (t : Fin (cfgM m hO).N) (h : act m hO c t) :
    outAt m hO c t = k0_pay3 (iblk m hO c 0 t) (k0_pay1 (iblk m hO c 1 t)) (k0_pay2 (iblk m hO c 2 t)) := if_pos h
theorem outAt_inactive (hO : Ok m) (c : Dev nD) (t : Fin (cfgM m hO).N) (h : ¬ act m hO c t) : outAt m hO c t = k0_pay4 := if_neg h

/-! ## The body obligation -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

theorem Phi_eq (hO : Ok m) (c : Dev nD) (p : Fin ((cfgM m hO).N + 1)) : (dats m hO 0 c).Φ p
    = iprop((∃ s0, ∃ s1, owns (c : Thread nD τ) scM0 fullShare s0 ∗ owns (c : Thread nD τ) scM1 fullShare s1 ∗ ⌜Held m hO c p.val s0 s1⌝)
    ∗ (∃ r, prngReg c r) ∗ Pipeline.ΦT pre0 (tbl m) c) := rfl

set_option maxHeartbeats 1000000 in
/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2]
  rw [show (dats m hO 0 c).owesAt () t.succ = (dats m hO 0 c).owesAt () t.castSucc from rfl,
    after0, after1, after2, after3, Phi_eq, Phi_eq, PhiT_eq]
  by_cases ha : act m hO c t
  · have hi : ¬ k0_cond3 (grid0.coords t) (count c (tbl m 1)) = 1#1 := fun h => inactive_iff.mp h ha
    rw [outAt_active m hO c t ha]
    by_cases h0 : starts (grid0.coords t) (word c (grid0.coords t) (tbl m 0)) (wordBefore c (grid0.coords t) (tbl m 0))
    · iintro ⟨⟨⟨%s0, %s1, HS0, HS1, %hs⟩, Hg, ⟨HT0, HT1⟩⟩, Ho, ⟨%d0, H0⟩, ⟨%d1, H1⟩, ⟨%d2, H2⟩, ⟨%d3, H3⟩⟩
      iapply ((run_starts c (grid0.coords t) _ _ _ _ _ _ _ _ _ _ _ _ (iblk m hO c 0 t) (iblk m hO c 1 t) (iblk m hO c 2 t) (tbl m 0) (tbl m 1) ha hi h0) Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HT0]; · iexact HT0
      isplitl [HT1]; · iexact HT1
      iintro ⟨H0, H1, H2, H3, HS0, HS1, HT0, HT1⟩
      isplitl [HS0 HS1 Hg HT0 HT1]
      · isplitl [HS0 HS1]
        · iexists _; iexists _
          isplitl [HS0]; · iexact HS0
          isplitl [HS1]; · iexact HS1
          ipureintro
          exact held_last m hO c t
        isplitl [Hg]; · iexact Hg
        isplitl [HT0]; · iexact HT0
        iexact HT1
      isplitl [Ho]; · iexact Ho
      isplitl [H0]; · iexact H0
      isplitl [H1]; · iexact H1
      isplitl [H2]; · iexact H2
      iexact H3
    · iintro ⟨⟨⟨%s0, %s1, HS0, HS1, %hs⟩, Hg, ⟨HT0, HT1⟩⟩, Ho, ⟨%d0, H0⟩, ⟨%d1, H1⟩, ⟨%d2, H2⟩, ⟨%d3, H3⟩⟩
      obtain ⟨e0, e1⟩ := held_kept m hO c t s0 s1 hs ha h0
      subst e0 e1
      iapply ((run_continues c (grid0.coords t) _ _ _ _ _ _ _ _ _ _ _ _ (iblk m hO c 0 t) (iblk m hO c 1 t) (iblk m hO c 2 t) (tbl m 0) (tbl m 1) (k0_pay1 (iblk m hO c 1 t)) (k0_pay2 (iblk m hO c 2 t)) ha hi h0) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      isplitl [HT1]; · iexact HT1
      iintro ⟨H0, H1, H2, H3, HS0, HS1, HT0, HT1⟩
      isplitl [HS0 HS1 Hg HT0 HT1]
      · isplitl [HS0 HS1]
        · iexists _; iexists _
          isplitl [HS0]; · iexact HS0
          isplitl [HS1]; · iexact HS1
          ipureintro
          exact held_last m hO c t
        isplitl [Hg]; · iexact Hg
        isplitl [HT0]; · iexact HT0
        iexact HT1
      isplitl [Ho]; · iexact Ho
      isplitl [H0]; · iexact H0
      isplitl [H1]; · iexact H1
      isplitl [H2]; · iexact H2
      iexact H3
  · rw [outAt_inactive m hO c t ha]
    iintro ⟨⟨⟨%s0, %s1, HS0, HS1, %hs⟩, Hg, ⟨HT0, HT1⟩⟩, Ho, ⟨%d0, H0⟩, ⟨%d1, H1⟩, ⟨%d2, H2⟩, ⟨%d3, H3⟩⟩
    iapply ((run_inactive c (grid0.coords t) _ _ _ _ _ _ _ _ _ _ _ _ (iblk m hO c 0 t) (iblk m hO c 1 t) (iblk m hO c 2 t) (tbl m 0) (tbl m 1) s0 s1 ha (inactive_iff.mpr ha)) Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    iintro ⟨H0, H1, H2, H3, HS0, HS1, HT0, HT1⟩
    isplitl [HS0 HS1 Hg HT0 HT1]
    · isplitl [HS0 HS1]
      · iexists _; iexists _
        isplitl [HS0]; · iexact HS0
        isplitl [HS1]; · iexact HS1
        ipureintro
        exact held_inactive m hO c t s0 s1 ha
      isplitl [Hg]; · iexact Hg
      isplitl [HT0]; · iexact HT0
      iexact HT1
    isplitl [Ho]; · iexact Ho
    isplitl [H0]; · iexact H0
    isplitl [H1]; · iexact H1
    isplitl [H2]; · iexact H2
    iexact H3

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- At a point that writes its block back the output's buffer is handed over as the body left it, stored there or not. -/
theorem left_of_flush (b f : Bool) (P Q : sProp 𝕄) :
    f = true → (Q ⊢ (match b with | true => (match f with | false => P | true => Q) | false => Q)) := by
  rintro rfl; cases b <;> exact .rfl

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  exact sep_mono .rfl (sep_mono .rfl (sep_mono .rfl (sep_mono .rfl (sep_mono .rfl (left_of_flush _ _ _ _ (flush3 (adm m hO) t))))))

/-! ## The run -/

theorem phi_in (hO : Ok m) (c : Dev nD) : iprop(Pipeline.ΦA spec0 c ∗ Pipeline.ΦT pre0 (tbl m) c) ⊢ (dats m hO 0 c).Φ 0 := by
  rw [Phi_eq, PhiA_eq]
  iintro ⟨⟨⟨⟨%s0, HS0⟩, ⟨%s1, HS1⟩⟩, Hg⟩, HT⟩
  isplitl [HS0 HS1]
  · iexists _; iexists _
    isplitl [HS0]; · iexact HS0
    isplitl [HS1]; · iexact HS1
    ipureintro
    intro q hq
    exact absurd hq (Nat.succ_ne_zero _)
  isplitl [Hg]; · iexact Hg
  iexact HT

theorem phi_out (hO : Ok m) (c : Dev nD) : (dats m hO 0 c).Φ (Fin.last (cfgM m hO).N) ⊢ Pipeline.ΦA spec0 c := by
  rw [Phi_eq, PhiA_eq]
  iintro ⟨⟨%s0, %s1, HS0, HS1, %hs⟩, Hg, HT⟩
  isplitl [HS0 HS1]
  · isplitl [HS0]; · iexists _; iexact HS0
    iexists _; iexact HS1
  iexact Hg

set_option backward.isDefEq.respectTransparency.types false in
/-- The launch: the arrays at what the data compute, the other buffers as found, every semaphore at zero. -/
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := phi_in m hO) (hout := phi_out m hO)

/-- The run with its buffers named: the result array, the arguments unchanged, every semaphore at zero. -/
theorem run (hO : Ok m) : θ_run defs (onTc (τ := τ) (main (F := F))) ⟨m, fun _ => 0, ρ⟩ (fun r => (∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2))⟩, h.2⟩) (run_main m ρ hO)

/-- The frame: the arguments unchanged and every semaphore at zero. -/
theorem frame_run (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run m ρ hO)

end Cert.UpIdeal.Hand

end
-- ==== Proof.Up.Frame.lean ====
/- The up projection's program as it runs on words is, letter for letter, the program read over the reals: its frame is the
   same run at the words. -/
module

public import proofs.«01_k».proof.Proof.Gen.Up
public import proofs.«01_k».proof.Proof.UpIdeal.Body
public import Idealize.ShloMosaic.PureOps.BitExact

@[expose] public section

set_option maxRecDepth 16384

noncomputable section

namespace Cert.Up.Hand

open Cert.Up Cert.Up.Gen
open Idealize.ShloMosaic Idealize.ShloMosaic.TcCoe
open Idealize.SL Idealize.SL.RA Idealize.SL.BI Idealize.SL.Sem

variable (m : (ℓ : Loc nD τ sig) → Buf (Elt Bits) ℓ) (ρ : Dev nD → PrngReg)

/-- The bodies are one program, -/
theorem body_eq : @Cert.Up.cc0_swiglu_up Bits _ _ = @Cert.UpIdeal.cc0_swiglu_up Bits _ _ := rfl

/-- so the body tables are one table, -/
theorem defs₀_eq : @Cert.Up.defs₀ Bits _ _ = @Cert.UpIdeal.defs₀ Bits _ _ :=
  congrArg Defs.onTc (funext fun ℓ => funext fun a => by
    match ℓ, a with
    | ⟨0, _⟩, (t, s) => rfl)

/-- and the tables with the pipeline's labels; -/
theorem defs_eq : @Cert.Up.defs Bits _ _ = @Cert.UpIdeal.defs Bits _ _ :=
  congrArg (Pipeline.defs (Cert.UpIdeal.pcfgs (F := Bits))) defs₀_eq

/-- the host program is the region alone in both. -/
theorem main_eq : @Cert.Up.main Bits _ _ = @Cert.UpIdeal.main Bits _ _ := rfl

/-- The frame of the program on words. -/
theorem frame (hO : Cert.UpIdeal.Hand.Ok (F := Bits) m) : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq, main_eq]
  exact Cert.UpIdeal.Hand.frame_run (F := Bits) m ρ hO

end Cert.Up.Hand

end
-- ==== Proof.DownIdeal.Kit.lean ====
/- The launch of the down projection's pipeline, at any contents of its two prefetched tables that keep every block
   inside its array: what the region finds in the arrays, the blocks each grid point reads, the branch condition of the
   body, and the staging memrefs and scratch the body is called with. -/
module

public import proofs.«01_k».proof.Proof.Gen.DownIdeal
public import proofs.«01_k».proof.Proof.Gen.DownIdeal.Launch
public import proofs.«01_k».proof.Proof.Gen.DownIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A TensorCore buffer of core `c` when the region is entered: as launched. -/
abbrev V (c : Dev nD) (b : Ref sig .tc) : Buf (Elt F) ((c : Thread nD τ).loc b) := m ((c : Thread nD τ).loc b)

set_option maxHeartbeats 800000 in
/-- The host program up to the region is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents, read off the launch memory of the one device. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables keep every block inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as a memref of its whole buffer. -/
abbrev tbM0 : Memref sig .tc .smem S40 .i32 := Memref.whole main_arg0
abbrev htbM0 : tbM0.IsWhole := Memref.isWhole_whole _
abbrev tbM1 : Memref sig .tc .smem S1 .i32 := Memref.whole main_arg1
abbrev htbM1 : tbM1.IsWhole := Memref.isWhole_whole _

/-- A table's contents on core `c`, and the half of the table the body may read. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t` of the array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input's staging buffer holds its block at every point, for data whose body leaves the inputs in place. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's one branch: the first row tile, or a tile whose expert `v2` is not its predecessor's, `v6`. -/
abbrev starts (i : grid0.Coords) (v2 : BitVec 32) (v6 : BitVec 32) : Prop := (Scalar.cmpi .ne (Scalar.extui (Scalar.ori (Scalar.cmpi .eq (BitVec.ofNat 32 (i 1).val) 0#32) (Scalar.cmpi .ne v2 v6))) 0#32) = 1#1

/-- The two words of the expert table the branch reads. -/
abbrev word (c : Dev nD) (i : grid0.Coords) (x : TbBuf (F := F) c tbM0) : BitVec 32 :=
  tbM0.view.readAt (Elt F) (Rect.unit (s := S40) (k0_off1 i) S1.size (k0_off1_inb i)).toLoadRect x (Shape.Idx.first (numel1_S1.symm ▸ Nat.one_pos))
abbrev wordBefore (c : Dev nD) (i : grid0.Coords) (x : TbBuf (F := F) c tbM0) : BitVec 32 :=
  tbM0.view.readAt (Elt F) (Rect.unit (s := S40) (k0_off2 i) S1.size (k0_off2_inb i)).toLoadRect x (Shape.Idx.first (numel1_S1.symm ▸ Nat.one_pos))

/-- Each window's staging memref at point `t`. -/
abbrev ms0 (hO : Ok m) (t : Fin (cfgM m hO).N) : Memref sig .tc .vmem S512x5632 .bf16 := spec0_0.stage ((cfgM m hO).slots t 0)
abbrev ms1 (hO : Ok m) (t : Fin (cfgM m hO).N) : Memref sig .tc .vmem S1x5632x512 .f32 := spec0_1.stage ((cfgM m hO).slots t 1)
abbrev ms2 (hO : Ok m) (t : Fin (cfgM m hO).N) : Memref sig .tc .vmem S512x1 .f32 := spec0_2.stage ((cfgM m hO).slots t 2)
abbrev ms3 (hO : Ok m) (t : Fin (cfgM m hO).N) : Memref sig .tc .vmem S512x512 .f32 := spec0_3.stage ((cfgM m hO).slots t 3)
/-- The scratch that keeps the current expert's weights in bf16. -/
abbrev scM : Memref sig .tc .vmem S5632x512 .bf16 := Memref.whole cc0_scratch0

/-- The body at point `t`, as the pipeline calls it. -/
abbrev bodyAt (a : (pcfg0 (F := F)).Adm) (t : Fin (cfg0 a).N) : Prog (TpuEff nD τ sig (Elt F) Λ₀ .tc) PUnit :=
  cc0_swiglu_down (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

/-- The output is written back at every point, whatever the tables hold. -/
theorem flush3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- What the core keeps between points beside the tables: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.DownIdeal.Hand

end
-- ==== Proof.DownIdeal.Run.lean ====
/- One run of the down projection's body, in its two cases: where an expert's run of row tiles starts the scratch is
   refilled from the weights' block, elsewhere it is read as it was left. -/
module

public import proofs.«01_k».proof.Proof.DownIdeal.Kit

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Where an expert's run starts: the scratch ends at the block's weights in bf16, the output at their product. -/
theorem run_starts (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S5632x512 .bf16) (harg8 : arg8.IsWhole)
    (x0 : Vec F S512x5632 .bf16) (x1 : Vec F S1x5632x512 .f32) (x2 : Vec F S512x1 .f32) (xt0 : TbBuf (F := F) c tbM0) (xt1 : TbBuf (F := F) c tbM1)
    (hc0 : starts i (word c i xt0) (wordBefore c i xt0)) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare (k0_pay2 x0 (k0_pay1 x1) x2) ∗ owns (c : Thread nD τ) arg8 fullShare (k0_pay1 x1) ∗ tbPt c tbM0 xt0 ∗ tbPt c tbM1 xt1) -∗ K ⟨⟩))
      ⊢ wp frame (wpE (defs₀ (F := F)) Variants.none c none) E (cc0_swiglu_down i tbM0 htbM0 tbM1 htbM1 arg4 harg4 arg5 harg5 arg6 harg6 arg7 harg7 arg8 harg8) K := by
  simp only [cc0_swiglu_down_eq_skeleton]; unfold cc0_swiglu_down_skel
  unfold owns
  iintro ⟨⟨%f0, %hf0, H0⟩, ⟨%f1, %hf1, H1⟩, ⟨%f2, %hf2, H2⟩, ⟨%d3, %f3, -, H3⟩, ⟨%ds0, %fs0, -, HS0⟩, HT0, HT1, Hk⟩
  obtain rfl := harg4.eq_unread hf0; obtain rfl := harg5.eq_unread hf1; obtain rfl := harg6.eq_unread hf2
  sl_exec (disch := first | sl_exact hc0)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    refine (View.read_writes_full _ _ _ _ _).trans ?_
    rw [View.readAt_full, View.readAt_full, harg4.read_unread, harg6.read_unread]
    unfold run_starts.sl.v12 run_starts.sl.HS0_1
    refine congrArg (k0_pay2 x0 · x2) ?_
    refine (View.readCov_full _ _ _ _ _).trans ?_
    rw [View.readAt_full, harg5.read_unread]
  isplitl [HS0]
  · iexists _; isplitr; swap; · iexact HS0
    ipureintro
    unfold run_starts.sl.HS0_1
    refine (View.read_writes_full _ _ _ _ _).trans ?_
    rw [View.readAt_full, harg5.read_unread]
  isplitl [HT0]; · iexact HT0
  iexact HT1

set_option maxHeartbeats 1000000 in
/-- Elsewhere: the scratch keeps what it holds, and the output ends at its product. -/
theorem run_continues (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S5632x512 .bf16) (harg8 : arg8.IsWhole)
    (x0 : Vec F S512x5632 .bf16) (x1 : Vec F S1x5632x512 .f32) (x2 : Vec F S512x1 .f32) (xt0 : TbBuf (F := F) c tbM0) (xt1 : TbBuf (F := F) c tbM1)
    (xs : Vec F S5632x512 .bf16) (hc0 : ¬ starts i (word c i xt0) (wordBefore c i xt0)) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare (k0_pay2 x0 xs x2) ∗ owns (c : Thread nD τ) arg8 fullShare xs ∗ tbPt c tbM0 xt0 ∗ tbPt c tbM1 xt1) -∗ K ⟨⟩))
      ⊢ wp frame (wpE (defs₀ (F := F)) Variants.none c none) E (cc0_swiglu_down i tbM0 htbM0 tbM1 htbM1 arg4 harg4 arg5 harg5 arg6 harg6 arg7 harg7 arg8 harg8) K := by
  simp only [cc0_swiglu_down_eq_skeleton]; unfold cc0_swiglu_down_skel
  unfold owns
  iintro ⟨⟨%f0, %hf0, H0⟩, ⟨%f1, %hf1, H1⟩, ⟨%f2, %hf2, H2⟩, ⟨%d3, %f3, -, H3⟩, ⟨%fs0, %hs0, HS0⟩, HT0, HT1, Hk⟩
  obtain rfl := harg4.eq_unread hf0; obtain rfl := harg5.eq_unread hf1; obtain rfl := harg6.eq_unread hf2; obtain rfl := harg8.eq_unread hs0
  sl_exec (disch := first | sl_exact hc0)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    refine (View.read_writes_full _ _ _ _ _).trans ?_
    rw [View.readAt_full, View.readAt_full, View.readAt_full, harg4.read_unread, harg6.read_unread, harg8.read_unread]
  isplitl [HS0]
  · iexists _; isplitr; · ipureintro; exact harg8.read_unread _
    iexact HS0
  isplitl [HT0]; · iexact HT0
  iexact HT1

end Cert.DownIdeal.Hand

end
-- ==== Proof.DownIdeal.Tables.lean ====
/- The two tables read at a grid point: the expert of the point's row tile, the number of active tiles, and the block
   indices the windows take from them. -/
module

public import proofs.«01_k».proof.Proof.DownIdeal.Kit
public import Idealize.ShloMosaic.Lib.ValueIdx

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row tile of a grid point, as an index of the expert table, and its predecessor. -/
def tile (i : grid0.Coords) : S40.Idx := ix1 ⟨(i 1).val, (i 1).isLt⟩
def tileBefore (i : grid0.Coords) : S40.Idx := ix1 ⟨(i 1).val - 1, lt_of_le_of_lt (Nat.sub_le _ _) (i 1).isLt⟩

theorem off2_eq : ∀ i : grid0.Coords, k0_off2 i = ![(i 1).val - 1] := by decide +kernel

theorem word_eq (c : Dev nD) (i : grid0.Coords) (x : TbBuf (F := F) c tbM0) : word c i x = x (tile i) := by
  unfold word
  rw [View.readAt_apply]
  refine congrArg x (funext fun a => Fin.ext ?_)
  match a with
  | ⟨0, _⟩ => show k0_off1 i 0 + 1 * 0 = (i 1).val; rw [k0_off1_eq]; rfl

theorem wordBefore_eq (c : Dev nD) (i : grid0.Coords) (x : TbBuf (F := F) c tbM0) : wordBefore c i x = x (tileBefore i) := by
  unfold wordBefore
  rw [View.readAt_apply]
  refine congrArg x (funext fun a => Fin.ext ?_)
  match a with
  | ⟨0, _⟩ => show k0_off2 i 0 + 1 * 0 = (i 1).val - 1; rw [off2_eq]; rfl

/-- The branch not taken: not the first row tile, and the predecessor has the same expert. -/
theorem not_starts {i : grid0.Coords} {v2 v6 : BitVec 32} (h : ¬ starts i v2 v6) : (i 1).val ≠ 0 ∧ v2 = v6 := by
  have hb : (i 1).val < 2 ^ 32 := lt_of_lt_of_le (i 1).isLt (by decide)
  unfold starts at h
  simp only [WordCmp.scalar_cmpi_eq, WordCmp.scalar_ori_eq, WordCmp.cmpi_ne_eq, WordCmp.cmpi_eq_eq,
    WordCmp.ori_ofBool, WordCmp.scalar_extui_ofBool, WordCmp.ofBool_eq_one_iff] at h
  have e0 : (0#32 : BitVec 32) = BitVec.ofNat 32 0 := rfl
  by_cases h0 : (i 1).val = 0
  · exfalso; apply h; rw [h0]; simp
  · refine ⟨h0, ?_⟩
    by_contra hne
    apply h; simp [hne]

/-- Window 1's block index: the tile's expert and the column tile. -/
theorem transform_1_eq (pf : pre0.Contents (Elt F)) (i : grid0.Coords) :
    cc0_transform_1 k0_off1_inb numel1_S1 pf i = ![(show BitVec 32 from pf 0 (tile i)).toNat, 0, (i 0).val] := by
  have hb : (i 0).val < 2 ^ 32 := lt_of_lt_of_le (i 0).isLt (by decide)
  unfold cc0_transform_1
  have e : pf.at 0 (Rect.unit (s := S40) ![(Scalar.indexCast (BitVec.ofNat 32 (i 1).val)).toNat] S1.size (k0_off1_inb i)) numel1_S1 = pf 0 (tile i) := by
    refine congrArg (pf 0) (funext fun a => Fin.ext ?_)
    match a with
    | ⟨0, _⟩ => show k0_off1 i 0 + 1 * 0 = (i 1).val; rw [k0_off1_eq]; rfl
  dsimp only
  rw [e]
  congr 1
  funext a
  match a with
  | ⟨0, _⟩ => rfl
  | ⟨1, _⟩ => show (BitVec.ofNat 32 (i 0).val).toNat = _; rw [BitVec.toNat_ofNat, Nat.mod_eq_of_lt hb]; rfl

/-- Window 0's block index: the row tile, cut at the last active one. -/
theorem transform_0_eq (pf : pre0.Contents (Elt F)) (i : grid0.Coords) :
    cc0_transform_0 inb_S1_S1_0 numel1_S1 pf i
      = ![(Scalar.minsi (BitVec.ofNat 32 (i 1).val) (Scalar.subi (show BitVec 32 from pf 1 (ix1 0)) 1#32)).toNat, 0] := by
  unfold cc0_transform_0
  have e : pf.at 1 (Rect.unit (s := S1) ![0] S1.size inb_S1_S1_0) numel1_S1 = pf 1 (ix1 0) := by
    refine congrArg (pf 1) (funext fun a => Fin.ext ?_)
    match a with
    | ⟨0, _⟩ => rfl
  dsimp only
  rw [e]
  rfl

end Cert.DownIdeal.Hand

end
-- ==== Proof.DownIdeal.Body.lean ====
/- The down projection's body at every grid point, with what the scratch holds carried from point to point: the weights
   of the current expert in bf16. From it the run of the whole pipeline: the result array, the arguments unchanged, and
   every semaphore at zero. -/
module

public import proofs.«01_k».proof.Proof.DownIdeal.Run
public import proofs.«01_k».proof.Proof.DownIdeal.Tables
public import Idealize.ShloMosaic.Lib.Claim

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output's buffer at point `t`. -/
def outAt (hO : Ok m) (c : Dev nD) (t : Fin (cfgM m hO).N) : Vec F S512x512 .f32 :=
  k0_pay2 (iblk m hO c 0 t) (k0_pay1 (iblk m hO c 1 t)) (iblk m hO c 2 t)

/-- The data of the pipeline on core `c`: the arrays as found; the inputs' buffers at their blocks after each point and the
    output's at `outAt`; between points the scratch holds the last point's weights, beside the generator register and the tables. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ p := iprop((∃ s, owns (c : Thread nD τ) scM fullShare s
      ∗ ⌜∀ q : Fin (cfgM m hO).N, q.val + 1 = p.val → s = k0_pay1 (iblk m hO c 1 q)⌝)
    ∗ (∃ r, prngReg c r) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = outAt m hO c t := by dsimp only [dats]; try rfl

theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d

/-! ## The weights' block where an expert's run continues -/

theorem coords0 (t : Fin grid0.N) : (grid0.coords t 0).val = t.val / 40 % 4 := Pipeline.Grid.coords_val t 0 (by decide) rfl
theorem coords1 (t : Fin grid0.N) : (grid0.coords t 1).val = t.val / 1 % 40 := Pipeline.Grid.coords_val t 1 (by decide) rfl

/-- Off the first row tile, the point before has the same column tile and the row tile before. -/
theorem coords_before {q t : Fin grid0.N} (h : q.val + 1 = t.val) (h1 : (grid0.coords t 1).val ≠ 0) :
    (grid0.coords q 0).val = (grid0.coords t 0).val ∧ (grid0.coords q 1).val = (grid0.coords t 1).val - 1 := by
  have := coords0 t; have := coords1 t; have := coords0 q; have := coords1 q
  omega

/-- One block index, one block. -/
theorem iblk1_congr (hO : Ok m) (c : Dev nD) {q t : Fin (cfgM m hO).N}
    (h : ((cfgM m hO).win 1).index q = ((cfgM m hO).win 1).index t) : iblk m hO c 1 q = iblk m hO c 1 t :=
  (show (dats m hO 0 c).fetched 1 q (iblk m hO c 1 t) = iblk m hO c 1 q by unfold Dat.fetched Dat.blockOf iblk; rw [A_eq]; rfl).symm.trans
    (((dats m hO 0 c).fetched_congr 1 h rfl (iblk m hO c 1 t)).trans
      (show (dats m hO 0 c).fetched 1 t (iblk m hO c 1 t) = iblk m hO c 1 t by unfold Dat.fetched Dat.blockOf iblk; rw [A_eq]; rfl))

/-- Where the branch is not taken the point before read the same weights. -/
theorem iblk1_before (hO : Ok m) (c : Dev nD) {q t : Fin (cfgM m hO).N} (h : q.val + 1 = t.val)
    (hs : ¬ starts (grid0.coords t) (word c (grid0.coords t) (tbl m 0)) (wordBefore c (grid0.coords t) (tbl m 0))) :
    iblk m hO c 1 q = iblk m hO c 1 t := by
  obtain ⟨h1, hw⟩ := not_starts hs
  replace hw : tbl m 0 (tile (grid0.coords t)) = tbl m 0 (tileBefore (grid0.coords t)) :=
    (word_eq c _ _).symm.trans (hw.trans (wordBefore_eq c _ _))
  obtain ⟨e0, e1⟩ := coords_before h h1
  refine iblk1_congr m hO c ?_
  show cc0_transform_1 k0_off1_inb numel1_S1 (tbl m) (grid0.coords q) = cc0_transform_1 k0_off1_inb numel1_S1 (tbl m) (grid0.coords t)
  rw [transform_1_eq, transform_1_eq, e0, hw]
  have : tile (grid0.coords q) = tileBefore (grid0.coords t) := by unfold tile tileBefore; congr 1; exact Fin.ext e1
  rw [this]

/-- There is a point before a point at which the branch is not taken. -/
theorem exists_before (t : Fin grid0.N) {v2 v6 : BitVec 32} (hs : ¬ starts (grid0.coords t) v2 v6) : ∃ q : Fin grid0.N, q.val + 1 = t.val := by
  have h1 := (not_starts hs).1
  have := coords1 t
  exact ⟨⟨t.val - 1, by omega⟩, by show t.val - 1 + 1 = t.val; omega⟩

theorem scratch_last (hO : Ok m) (c : Dev nD) (t : Fin (cfgM m hO).N) (q : Fin (cfgM m hO).N) (hq : q.val + 1 = t.succ.val) :
    k0_pay1 (iblk m hO c 1 t) = k0_pay1 (iblk m hO c 1 q) :=
  congrArg (fun q => k0_pay1 (iblk m hO c 1 q)) (Fin.ext (Nat.succ.inj hq).symm)

theorem scratch_kept (hO : Ok m) (c : Dev nD) (t : Fin (cfgM m hO).N) (s : Vec F S5632x512 .bf16)
    (hs : ∀ q : Fin (cfgM m hO).N, q.val + 1 = t.castSucc.val → s = k0_pay1 (iblk m hO c 1 q))
    (h0 : ¬ starts (grid0.coords t) (word c (grid0.coords t) (tbl m 0)) (wordBefore c (grid0.coords t) (tbl m 0))) :
    s = k0_pay1 (iblk m hO c 1 t) := by
  obtain ⟨q, hq⟩ := exists_before t h0
  have e : iblk m hO c 1 q = iblk m hO c 1 t := iblk1_before m hO c hq h0
  rw [← e]
  exact hs q (hq.trans (Fin.val_castSucc t).symm)

/-! ## The body obligation -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

theorem Phi_eq (hO : Ok m) (c : Dev nD) (p : Fin ((cfgM m hO).N + 1)) : (dats m hO 0 c).Φ p
    = iprop((∃ s, owns (c : Thread nD τ) scM fullShare s
      ∗ ⌜∀ q : Fin (cfgM m hO).N, q.val + 1 = p.val → s = k0_pay1 (iblk m hO c 1 q)⌝)
    ∗ (∃ r, prngReg c r) ∗ Pipeline.ΦT pre0 (tbl m) c) := rfl

set_option maxHeartbeats 1000000 in
/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2]
  rw [show (dats m hO 0 c).owesAt () t.succ = (dats m hO 0 c).owesAt () t.castSucc from rfl,
    after0, after1, after2, after3, Phi_eq, Phi_eq, PhiT_eq]
  by_cases h0 : starts (grid0.coords t) (word c (grid0.coords t) (tbl m 0)) (wordBefore c (grid0.coords t) (tbl m 0))
  · iintro ⟨⟨⟨%s, HS0, %hs⟩, Hg, ⟨HT0, HT1⟩⟩, Ho, ⟨%d0, H0⟩, ⟨%d1, H1⟩, ⟨%d2, H2⟩, ⟨%d3, H3⟩⟩
    iapply ((run_starts c (grid0.coords t) _ _ _ _ _ _ _ _ _ _ (iblk m hO c 0 t) (iblk m hO c 1 t) (iblk m hO c 2 t) (tbl m 0) (tbl m 1) h0) Set.univ _)
    isplitl [H0]; · iexact H0
    isplitl [H1]; · iexact H1
    isplitl [H2]; · iexact H2
    isplitl [H3]; · iexists _; iexact H3
    isplitl [HS0]; · iexists _; iexact HS0
    isplitl [HT0]; · iexact HT0
    isplitl [HT1]; · iexact HT1
    iintro ⟨H0, H1, H2, H3, HS0, HT0, HT1⟩
    isplitl [HS0 Hg HT0 HT1]
    · isplitl [HS0]
      · iexists _; isplitl [HS0]; · iexact HS0
        ipureintro
        exact scratch_last m hO c t
      isplitl [Hg]; · iexact Hg
      isplitl [HT0]; · iexact HT0
      iexact HT1
    isplitl [Ho]; · iexact Ho
    isplitl [H0]; · iexact H0
    isplitl [H1]; · iexact H1
    isplitl [H2]; · iexact H2
    iexact H3
  · iintro ⟨⟨⟨%s, HS0, %hs⟩, Hg, ⟨HT0, HT1⟩⟩, Ho, ⟨%d0, H0⟩, ⟨%d1, H1⟩, ⟨%d2, H2⟩, ⟨%d3, H3⟩⟩
    have e := scratch_kept m hO c t s hs h0
    subst e
    iapply ((run_continues c (grid0.coords t) _ _ _ _ _ _ _ _ _ _ (iblk m hO c 0 t) (iblk m hO c 1 t) (iblk m hO c 2 t) (tbl m 0) (tbl m 1) (k0_pay1 (iblk m hO c 1 t)) h0) Set.univ _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    iintro ⟨H0, H1, H2, H3, HS0, HT0, HT1⟩
    isplitl [HS0 Hg HT0 HT1]
    · isplitl [HS0]
      · iexists _; isplitl [HS0]; · iexact HS0
        ipureintro
        exact scratch_last m hO c t
      isplitl [Hg]; · iexact Hg
      isplitl [HT0]; · iexact HT0
      iexact HT1
    isplitl [Ho]; · iexact Ho
    isplitl [H0]; · iexact H0
    isplitl [H1]; · iexact H1
    isplitl [H2]; · iexact H2
    iexact H3

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

theorem phi_in (hO : Ok m) (c : Dev nD) : iprop(Pipeline.ΦA spec0 c ∗ Pipeline.ΦT pre0 (tbl m) c) ⊢ (dats m hO 0 c).Φ 0 := by
  rw [Phi_eq, PhiA_eq]
  iintro ⟨⟨⟨%s, HS⟩, Hg⟩, HT⟩
  isplitl [HS]
  · iexists _; isplitl [HS]; · iexact HS
    ipureintro
    intro q hq
    exact absurd hq (Nat.succ_ne_zero _)
  isplitl [Hg]; · iexact Hg
  iexact HT

theorem phi_out (hO : Ok m) (c : Dev nD) : (dats m hO 0 c).Φ (Fin.last (cfgM m hO).N) ⊢ Pipeline.ΦA spec0 c := by
  rw [Phi_eq, PhiA_eq]
  iintro ⟨⟨%s, HS, %hs⟩, Hg, HT⟩
  isplitl [HS]; · iexists _; iexact HS
  iexact Hg

set_option backward.isDefEq.respectTransparency.types false in
/-- The launch: the arrays at what the data compute, the other buffers as found, every semaphore at zero. -/
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := phi_in m hO) (hout := phi_out m hO)

/-- The run with its buffers named: the result array, the arguments unchanged, every semaphore at zero. -/
theorem run (hO : Ok m) : θ_run defs (onTc (τ := τ) (main (F := F))) ⟨m, fun _ => 0, ρ⟩ (fun r => (∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2))⟩, h.2⟩) (run_main m ρ hO)

/-- The frame: the arguments unchanged and every semaphore at zero. -/
theorem frame_run (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run m ρ hO)

end Cert.DownIdeal.Hand

end
-- ==== Proof.Down.Frame.lean ====
/- The down projection's program as it runs on words is, letter for letter, the program read over the reals: its frame is the
   same run at the words. -/
module

public import proofs.«01_k».proof.Proof.Gen.Down
public import proofs.«01_k».proof.Proof.DownIdeal.Body
public import Idealize.ShloMosaic.PureOps.BitExact

@[expose] public section

set_option maxRecDepth 16384

noncomputable section

namespace Cert.Down.Hand

open Cert.Down Cert.Down.Gen
open Idealize.ShloMosaic Idealize.ShloMosaic.TcCoe
open Idealize.SL Idealize.SL.RA Idealize.SL.BI Idealize.SL.Sem

variable (m : (ℓ : Loc nD τ sig) → Buf (Elt Bits) ℓ) (ρ : Dev nD → PrngReg)

/-- The bodies are one program, -/
theorem body_eq : @Cert.Down.cc0_swiglu_down Bits _ _ = @Cert.DownIdeal.cc0_swiglu_down Bits _ _ := rfl

/-- so the body tables are one table, -/
theorem defs₀_eq : @Cert.Down.defs₀ Bits _ _ = @Cert.DownIdeal.defs₀ Bits _ _ :=
  congrArg Defs.onTc (funext fun ℓ => funext fun a => by
    match ℓ, a with
    | ⟨0, _⟩, (t, s) => rfl)

/-- and the tables with the pipeline's labels; -/
theorem defs_eq : @Cert.Down.defs Bits _ _ = @Cert.DownIdeal.defs Bits _ _ :=
  congrArg (Pipeline.defs (Cert.DownIdeal.pcfgs (F := Bits))) defs₀_eq

/-- the host program is the region alone in both. -/
theorem main_eq : @Cert.Down.main Bits _ _ = @Cert.DownIdeal.main Bits _ _ := rfl

/-- The frame of the program on words. -/
theorem frame (hO : Cert.DownIdeal.Hand.Ok (F := Bits) m) : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq, main_eq]
  exact Cert.DownIdeal.Hand.frame_run (F := Bits) m ρ hO

end Cert.Down.Hand

end
-- ==== Proof.UpIdeal.InRange.lean ====
/- With the tables in range every block of the up projection is inside its array. -/
module

public import proofs.«01_k».proof.Proof.UpIdeal.Tables
public import proofs.«01_k».proof.Proof.Tables.Ranges

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.ShloMosaic.ValueIdx
open Cert.Ranges
open Idealize.ShloMosaic.Pipeline (Dat Cfg Window)

variable {F : FTy → Type} [FloatOps F]

theorem ok_of_inRange (pf : pre0.Contents (Elt F)) (h : InRange (pf 0) (pf 1)) : ok0 pf := by
  have hw : ∀ i : grid0.Coords, ∀ a, ((![(show BitVec 32 from pf 0 (tile i)).toNat, 0, (i 0).val] : Fin 3 → Nat) a + 1) * S1x2048x512.size a ≤ S16x2048x5632.size a := fun i a => by
    have hi : (i 0).val < 11 := (i 0).isLt
    have hx : (show BitVec 32 from pf 0 (tile i)).toNat < 16 := h.expert (tile i)
    match a with
    | ⟨0, _⟩ => show ((show BitVec 32 from pf 0 (tile i)).toNat + 1) * 1 ≤ 16; omega
    | ⟨1, _⟩ => show (0 + 1) * 2048 ≤ 2048; omega
    | ⟨2, _⟩ => show ((i 0).val + 1) * 512 ≤ 5632; omega
  refine ⟨fun i => ?_, fun i => ⟨fun a => ?_, .inl rfl⟩, fun i => ⟨fun a => ?_, .inl rfl⟩⟩
  · have hi : (i 1).val < 40 := (i 1).isLt
    have e := transform_0_eq pf i
    rw [minsi_pred hi h.pos h.le] at e
    refine ⟨fun a => ?_, .inr (Affine.block_words_dvd (of_decide_eq_true rfl) (by decide))⟩
    have hle := h.le
    rw [e]
    match a with
    | ⟨0, _⟩ => show (min (i 1).val _ + 1) * 512 ≤ 20480; omega
    | ⟨1, _⟩ => show (0 + 1) * 2048 ≤ 2048; omega
  · rw [transform_1_eq]; exact hw i a
  · rw [transform_2_eq]; exact hw i a

end Cert.UpIdeal.Hand

end
-- ==== Proof.UpIdeal.Value.lean ====
/- The up projection over the reals: the result array after the last point, element by element. -/
module

public import proofs.«01_k».proof.Proof.UpIdeal.Body
public import proofs.«01_k».proof.Proof.UpIdeal.InRange
public import Idealize.ShloMosaic.Lib.Pipeline.ValueKit
public import Idealize.ShloMosaic.Lib.Pointwise
public import Idealize.ShloMosaic.PureOps.Ideal

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Cert.Ranges
open Idealize.ShloMosaic.Pipeline (Dat Cfg Window)

variable (m : (ℓ : Loc nD τ sig) → Buf (Elt Ideal) ℓ)

/-- The tables on core `c` are in range. -/
abbrev TablesInRange : Prop := InRange (V m (0 : Dev nD) main_arg0) (V m (0 : Dev nD) main_arg1)

/-- The arguments at their types: the experts' numbers, the number of row tiles in use, the rows, and an expert's two weights. -/
abbrev experts : IVec S40 32 := V m (0 : Dev nD) main_arg0
abbrev count₀ : IVec S1 32 := V m (0 : Dev nD) main_arg1
abbrev used : Nat := (count₀ m (ValueIdx.ix1 0)).toNat
abbrev rows (c : Dev nD) : FVec Ideal S20480x2048 .bf16 := V m c main_arg2
abbrev gateW (c : Dev nD) : FVec Ideal S16x2048x5632 .f32 := V m c main_arg3
abbrev upW (c : Dev nD) : FVec Ideal S16x2048x5632 .f32 := V m c main_arg4

/-- SwiGLU of a gate product and an up product. -/
abbrev swiglu (g u : EReal) : EReal := g * Ideal.logistic g * u

theorem pay3_apply (x : Vec Ideal S512x2048 .bf16) (w u : Vec Ideal S1x2048x512 .f32) (y : S512x512.Idx) :
    k0_pay3 x (k0_pay1 w) (k0_pay2 u) y
      = swiglu (∑ k, x (ix2 (y 0) k) * w (ix3 0 k (y 1))) (∑ k, x (ix2 (y 0) k) * u (ix3 0 k (y 1))) := by
  pointwise [k0_pay3, k0_pay1, k0_pay2]

theorem pay4_apply (y : S512x512.Idx) : k0_pay4 (F := Ideal) y = (0 : EReal) := by
  pointwise [k0_pay4]

/-- A point is active when its row tile is one in use. -/
theorem act_iff (hr : TablesInRange m) (hO : Ok m) (c : Dev nD) (t : Fin (cfgM m hO).N) : act m hO c t ↔ t.val % 40 < used m := by
  have hl : (count₀ m (ValueIdx.ix1 0)).toNat ≤ 40 := hr.le
  have e : count c (tbl m 1) = count₀ m (ValueIdx.ix1 0) := count_eq c (tbl m 1)
  have c1 := coords1 t
  refine active_iff.trans ?_
  rw [e, c1, Nat.div_one]
  change _ ↔ t.val % 40 < (count₀ m (ValueIdx.ix1 0)).toNat
  have e1 := BitVec.toInt_eq_toNat_cond (BitVec.ofNat 32 (t.val % 40))
  have e2 := BitVec.toInt_eq_toNat_cond (count₀ m (ValueIdx.ix1 0))
  have e4 : (BitVec.ofNat 32 (t.val % 40)).toNat = t.val % 40 % 2 ^ 32 := BitVec.toNat_ofNat _ _
  rw [e4] at e1
  split at e1 <;> split at e2 <;> omega

/-! ## The blocks at coordinates -/

theorem iblk0_apply (hO : Ok m) (hr : TablesInRange m) (c : Dev nD) (t : Fin (cfgM m hO).N) (ht : t.val % 40 < used m) (z : S512x2048.Idx)
    (u : S20480x2048.Idx) (h0 : (u 0).val = t.val % 40 * 512 + (z 0).val) (h1 : (u 1).val = (z 1).val) :
    iblk m hO c 0 t z = rows m c u := by
  have e : cc0_transform_0 inb_S1_S1_0 numel1_S1 (tbl m) (grid0.coords t) = ![t.val % 40, 0] :=
    (transform_0_eq (tbl m) (grid0.coords t)).trans (congrArg (fun n => (![n, 0] : Fin 2 → Nat))
      ((minsi_pred (grid0.coords t 1).isLt hr.pos hr.le).trans (by rw [coords1, Nat.div_one]; exact Nat.min_eq_left (Nat.le_sub_one_of_lt ht))))
  refine (View.read_apply _ _).trans ?_
  show rows m c _ = rows m c u
  congr 1; funext a; apply Fin.ext
  match a with
  | ⟨0, _⟩ =>
    show cc0_transform_0 inb_S1_S1_0 numel1_S1 (tbl m) (grid0.coords t) 0 * 512 + 1 * (z 0).val = _
    rw [e, Nat.one_mul]; exact h0.symm
  | ⟨1, _⟩ =>
    show cc0_transform_0 inb_S1_S1_0 numel1_S1 (tbl m) (grid0.coords t) 1 * 2048 + 1 * (z 1).val = _
    rw [e, Nat.one_mul]; exact ((congrArg (· + (z 1).val) (Nat.zero_mul _)).trans (Nat.zero_add _)).trans h1.symm

/-- Both weight windows place a block at the tile's expert and the point's column tile. -/
theorem weight_coord (T : Fin 3 → Nat) (t : Fin grid0.N) (e : T = ![(experts m (tile (grid0.coords t))).toNat, 0, t.val / 40 % 11]) (z : S1x2048x512.Idx)
    (u : S16x2048x5632.Idx) (h0 : (u 0).val = (experts m (tile (grid0.coords t))).toNat) (h1 : (u 1).val = (z 1).val)
    (h2 : (u 2).val = t.val / 40 % 11 * 512 + (z 2).val) (a : Fin 3) : T a * S1x2048x512.size a + 1 * (z a).val = (u a).val := by
  rw [e]
  match a with
  | ⟨0, _⟩ =>
    have hz : (z 0).val < 1 := (z 0).isLt
    refine Eq.trans ?_ h0.symm
    show (experts m (tile (grid0.coords t))).toNat * 1 + 1 * (z 0).val = _
    omega
  | ⟨1, _⟩ =>
    refine Eq.trans ?_ h1.symm
    show 0 * 2048 + 1 * (z 1).val = _
    omega
  | ⟨2, _⟩ =>
    refine Eq.trans ?_ h2.symm
    show t.val / 40 % 11 * 512 + 1 * (z 2).val = _
    omega

theorem iblk1_apply (hO : Ok m) (c : Dev nD) (t : Fin (cfgM m hO).N) (z : S1x2048x512.Idx) (u : S16x2048x5632.Idx)
    (h0 : (u 0).val = (experts m (tile (grid0.coords t))).toNat) (h1 : (u 1).val = (z 1).val)
    (h2 : (u 2).val = t.val / 40 % 11 * 512 + (z 2).val) : iblk m hO c 1 t z = gateW m c u := by
  have e : cc0_transform_1 k0_off1_inb numel1_S1 (tbl m) (grid0.coords t) = ![(experts m (tile (grid0.coords t))).toNat, 0, t.val / 40 % 11] :=
    (transform_1_eq (tbl m) (grid0.coords t)).trans (congrArg (fun n => (![(experts m (tile (grid0.coords t))).toNat, 0, n] : Fin 3 → Nat)) (coords0 t))
  refine (View.read_apply _ _).trans ?_
  show gateW m c _ = gateW m c u
  congr 1; funext a; apply Fin.ext
  exact weight_coord m _ t e z u h0 h1 h2 a

theorem iblk2_apply (hO : Ok m) (c : Dev nD) (t : Fin (cfgM m hO).N) (z : S1x2048x512.Idx) (u : S16x2048x5632.Idx)
    (h0 : (u 0).val = (experts m (tile (grid0.coords t))).toNat) (h1 : (u 1).val = (z 1).val)
    (h2 : (u 2).val = t.val / 40 % 11 * 512 + (z 2).val) : iblk m hO c 2 t z = upW m c u := by
  have e : cc0_transform_2 k0_off1_inb numel1_S1 (tbl m) (grid0.coords t) = ![(experts m (tile (grid0.coords t))).toNat, 0, t.val / 40 % 11] :=
    (transform_2_eq (tbl m) (grid0.coords t)).trans (congrArg (fun n => (![(experts m (tile (grid0.coords t))).toNat, 0, n] : Fin 3 → Nat)) (coords0 t))
  refine (View.read_apply _ _).trans ?_
  show upW m c _ = upW m c u
  congr 1; funext a; apply Fin.ext
  exact weight_coord m _ t e z u h0 h1 h2 a

theorem transform_3_eq (i : grid0.Coords) : cc0_transform_3 i = ![(i 1).val, (i 0).val] := by
  have hb : (i 1).val < 2 ^ 32 := lt_of_lt_of_le (i 1).isLt (by decide)
  have hb' : (i 0).val < 2 ^ 32 := lt_of_lt_of_le (i 0).isLt (by decide)
  funext a
  match a with
  | ⟨0, _⟩ => exact Nat.mod_eq_of_lt hb
  | ⟨1, _⟩ => exact Nat.mod_eq_of_lt hb'

/-- Where the array holds element `y` of the block written at point `t`. -/
abbrev emb3 (hO : Ok m) (t : Fin (cfgM m hO).N) (y : S512x512.Idx) : S20480x5632.Idx := (((cfgM m hO).win 3).blk t).view.emb y

theorem emb3_0 (hO : Ok m) (t : Fin (cfgM m hO).N) (y : S512x512.Idx) :
    (emb3 m hO t y 0).val = t.val % 40 * 512 + (y 0).val := by
  have e := transform_3_eq (grid0.coords t)
  rw [coords1, Nat.div_one] at e
  show cc0_transform_3 (grid0.coords t) 0 * 512 + 1 * (y 0).val = _
  rw [e, Nat.one_mul]; rfl

theorem emb3_1 (hO : Ok m) (t : Fin (cfgM m hO).N) (y : S512x512.Idx) :
    (emb3 m hO t y 1).val = t.val / 40 % 11 * 512 + (y 1).val := by
  have e := transform_3_eq (grid0.coords t)
  rw [coords0] at e
  show cc0_transform_3 (grid0.coords t) 1 * 512 + 1 * (y 1).val = _
  rw [e, Nat.one_mul]; rfl

/-! ## The array -/

/-- The tile of row `r`. -/
abbrev tileOf (r : Fin 20480) : Fin 40 := ⟨r.val / 512, by have := r.isLt; omega⟩

/-- The product of row `r` with column `q` of expert `e`. -/
abbrev rowDot (x : FVec Ideal S20480x2048 .bf16) (w : FVec Ideal S16x2048x5632 .f32) (r : Fin 20480) (e : Fin 16) (q : Fin 5632) : EReal :=
  ∑ k, x (ix2 r k) * w (ix3 e k q)

/-- The expert of row `r`. -/
abbrev expertOf (hr : TablesInRange m) (r : Fin 20480) : Fin 16 := ⟨(experts m (ValueIdx.ix1 (tileOf r))).toNat, hr.expert _⟩

/-- What the up projection leaves: SwiGLU of the row's two products with its tile's expert on the tiles in use, zero elsewhere. -/
def result (hr : TablesInRange m) (c : Dev nD) : Vec Ideal S20480x5632 .bf16 := fun j =>
  if (j 0).val / 512 < used m then
    swiglu (rowDot (rows m c) (gateW m c) (j 0) (expertOf m hr (j 0)) (j 1)) (rowDot (rows m c) (upW m c) (j 0) (expertOf m hr (j 0)) (j 1))
  else (0 : EReal)

theorem result_apply (hr : TablesInRange m) (c : Dev nD) (hO : Ok m) (t : Fin (cfgM m hO).N) (y : S512x512.Idx) :
    outAt m hO c t y = result m hr c (emb3 m hO t y) := by
  have e0 := emb3_0 m hO t y
  have e1 := emb3_1 m hO t y
  have hy0 : (y 0).val < 512 := (y 0).isLt
  have c1 := coords1 t
  generalize emb3 m hO t y = j at e0 e1 ⊢
  have ej : (j 0).val / 512 = t.val % 40 := by rw [e0]; omega
  have ee : (experts m (ValueIdx.ix1 (tileOf (j 0)))).toNat = (experts m (tile (grid0.coords t))).toNat := by
    refine congrArg (fun i => (experts m (ValueIdx.ix1 i)).toNat) (Fin.ext ?_)
    show (j 0).val / 512 = (grid0.coords t 1).val
    rw [ej, c1, Nat.div_one]
  unfold result
  rw [ej]
  by_cases ht : t.val % 40 < used m
  · rw [if_pos ht]
    refine (congrFun (outAt_active m hO c t ((act_iff m hr hO c t).2 ht)) y).trans ?_
    refine (pay3_apply _ _ _ _).trans ?_
    exact congrArg₂ swiglu
      (Finset.sum_congr rfl fun k _ => congrArg₂ (· * ·) (iblk0_apply m hO hr c t ht _ _ e0 rfl) (iblk1_apply m hO c t _ _ ee rfl e1))
      (Finset.sum_congr rfl fun k _ => congrArg₂ (· * ·) (iblk0_apply m hO hr c t ht _ _ e0 rfl) (iblk2_apply m hO c t _ _ ee rfl e1))
  · rw [if_neg ht]
    exact (congrFun (outAt_inactive m hO c t (fun h => ht ((act_iff m hr hO c t).1 h))) y).trans (pay4_apply y)

theorem cover3 (hO : Ok m) (j : S20480x5632.Idx) : ∃ t : Fin (cfgM m hO).N, ((cfgM m hO).win 3).flush t = true ∧ j ∈ (((cfgM m hO).win 3).blk t).view.set := by
  have h0 : (j 0).val < 20480 := (j 0).isLt
  have h1 : (j 1).val < 5632 := (j 1).isLt
  have hN : grid0.N = 440 := by decide
  let t : Fin grid0.N := ⟨(j 1).val / 512 * 40 + (j 0).val / 512, by omega⟩
  let y : S512x512.Idx := ix2 ⟨(j 0).val % 512, by omega⟩ ⟨(j 1).val % 512, by omega⟩
  refine ⟨t, flush3 _ t, ?_⟩
  have : j = emb3 m hO t y := by
    funext a; apply Fin.ext
    match a with
    | ⟨0, _⟩ => refine Eq.trans ?_ (emb3_0 m hO t y).symm; show (j 0).val = ((j 1).val / 512 * 40 + (j 0).val / 512) % 40 * 512 + (j 0).val % 512; omega
    | ⟨1, _⟩ => refine Eq.trans ?_ (emb3_1 m hO t y).symm; show (j 1).val = ((j 1).val / 512 * 40 + (j 0).val / 512) / 40 % 11 * 512 + (j 1).val % 512; omega
  rw [this]
  exact View.emb_mem_set _ _

theorem arrAt_result (hr : TablesInRange m) (hO : Ok m) (c : Dev nD) : (dats m hO 0 c).arrAt 3 (cfgM m hO).N = result m hr c := by
  refine (dats m hO 0 c).arrAt_eq_of_emb 3 (result m hr c) (fun t hf y => ?_) (cover3 m hO)
  blk_simp
  rw [after3]
  exact result_apply m hr c hO t y

end Cert.UpIdeal.Hand

end
-- ==== Proof.Tables.Choice.lean ====
/- A sum over all experts with weights that are zero but at the expert of a row's tile: that expert's term. -/
module

public import proofs.«01_k».proof.Proof.Tables.Ranges
public import Idealize.ShloMosaic.Lib.Pointwise

@[expose] public section

set_option maxRecDepth 16384

noncomputable section

namespace Cert.Ranges

open Idealize.ShloMosaic

/-- The comparison of a table's word with an expert's number decides whether they are the same number. -/
theorem same_expert {w : BitVec 32} (hw : w.toNat < 16) (e : Fin 16) :
    IntOp.cmpi .eq w (BitVec.ofNat 32 e.val) = BitVec.ofBool (decide (e = ⟨w.toNat, hw⟩)) := by
  have he := e.isLt
  rw [WordCmp.cmpi_eq_eq_toNat]
  refine congrArg BitVec.ofBool (decide_eq_decide.2 ?_)
  rw [BitVec.toNat_ofNat, Nat.mod_eq_of_lt (by omega), Fin.ext_iff]
  exact eq_comm

/-- The sum of the experts' terms, each times its weight, where the weight is `a` at the expert `e₀` and zero elsewhere. -/
theorem sum_one_expert (e₀ : Fin 16) (a : EReal) (b : Fin 16 → BitVec 1) (hb : ∀ e, b e = BitVec.ofBool (decide (e = e₀)))
    (f : Fin 16 → EReal) : ∑ e, Scalar.select (b e) a (0 : EReal) * f e = a * f e₀ := by
  refine (Finset.sum_eq_single e₀ (fun e _ hne => ?_) (fun h => absurd (Finset.mem_univ _) h)).trans ?_
  · rw [hb, decide_eq_false hne]
    exact zero_mul _
  · rw [hb, decide_eq_true rfl]; rfl

/-- The sum with weights that are all zero. -/
theorem sum_no_expert (a : EReal) (b : Fin 16 → BitVec 1) (hb : ∀ e, b e = 0#1) (f : Fin 16 → EReal) :
    ∑ e, Scalar.select (b e) a (0 : EReal) * f e = 0 := by
  refine Finset.sum_eq_zero fun e _ => ?_
  rw [hb]
  exact zero_mul _

end Cert.Ranges

end
-- ==== Proof.UpIdeal.Equation.lean ====
/- The up projection's array is the reference's. -/
module

public import proofs.«01_k».proof.Proof.UpIdeal.Value
public import proofs.«01_k».proof.Proof.Tables.Choice
public import proofs.«01_k».proof.Proof.Gen.UpReferenceIdeal.Run

@[expose] public section

set_option maxRecDepth 16384

noncomputable section

namespace Cert.UpReferenceIdeal.Hand

open Cert.UpReferenceIdeal Cert.UpReferenceIdeal.Facts₀
open Idealize.ShloMosaic Idealize.ShloMosaic.TcCoe
open Cert.Ranges

/-- The weights of every row for every expert: one at the expert of the row's tile, where the tile is in use, zero elsewhere. -/
abbrev pickOf (te : IVec S40 32) (na : IVec S1 32) : FVec Ideal S20480x16 .f32 :=
  select (andi (cmpi .eq (broadcastInDim S20480x16 ![0, 1] bcast_S20480x1_S20480x16_0_1 (broadcastInDim S20480x1 ![0] bcast_S20480_S20480x1_0 (shapeCast _ (broadcastInDim S40x512 ![0] bcast_S40_S40x512_0 te) shapeCasts_S40x512_S20480))) (broadcastInDim S20480x16 ![0, 1] bcast_S1x16_S20480x16_0_1 (broadcastInDim S1x16 ![1] bcast_S16_S1x16_1 (iotaInDim S16 32 0)))) (broadcastInDim S20480x16 ![0, 1] bcast_S20480x1_S20480x16_0_1 (broadcastInDim S20480x1 ![0] bcast_S20480_S20480x1_0 (cmpi .slt (iotaInDim S20480 32 0) (broadcastInDim S20480 ![] bcast_S_S20480 (muli (shapeCast _ na shapeCasts_S1_S_) (constantI S_ 32 512#32))))))) (broadcastInDim S20480x16 ![] bcast_S_S20480x16 (constant S_ .f32 0x3F800000#32)) (broadcastInDim S20480x16 ![] bcast_S_S20480x16 (constant S_ .f32 0x00000000#32))

/-- Every expert's product of every row. -/
abbrev products (x : FVec Ideal S20480x2048 .bf16) (w : FVec Ideal S16x2048x5632 .f32) : FVec Ideal S16x20480x5632 .f32 :=
  transpose S16x20480x5632 [0, 2, 1] (Host.dotGeneral dot_S16x2048x5632_S20480x2048_S16x5632x20480_1_1_02_0_n_n none w (extf .f32 x bitsLt_bf16_f32)) transposes_S16x5632x20480_S16x20480x5632_0_2_1

/-- Every expert's hidden layer of the two products. -/
abbrev hidden (g u : FVec Ideal S16x20480x5632 .f32) : FVec Ideal S16x20480x5632 .f32 :=
  mulf (mulf g (Host.divf (broadcastInDim S16x20480x5632 ![] bcast_S_S16x20480x5632 (constant S_ .f32 0x3F800000#32)) (addf (broadcastInDim S16x20480x5632 ![] bcast_S_S16x20480x5632 (constant S_ .f32 0x3F800000#32)) (Host.exp (Host.negf g))))) u

/-- The reference's result as its operations spell it. -/
abbrev spec (te : IVec S40 32) (na : IVec S1 32) (x : FVec Ideal S20480x2048 .bf16) (wg wu : FVec Ideal S16x2048x5632 .f32) : FVec Ideal S20480x5632 .bf16 :=
  truncf .bf16 (Host.dotGeneral dot_S20480x16_S16x20480x5632_S20480x5632_1_0_n_2_0_1 none (pickOf te na) (hidden (products x wg) (products x wu))) bitsLt_bf16_f32

theorem products_apply (x : FVec Ideal S20480x2048 .bf16) (w : FVec Ideal S16x2048x5632 .f32) (e : Fin 16) (r : Fin 20480) (q : Fin 5632) :
    products x w (ix3 e r q) = ∑ k, x (ix2 r k) * w (ix3 e k q) := by
  unfold products
  pointwise
  exact Finset.sum_congr rfl fun k _ => mul_comm _ _

theorem hidden_apply (g u : FVec Ideal S16x20480x5632 .f32) (i : S16x20480x5632.Idx) : hidden g u i = Cert.UpIdeal.Hand.swiglu (g i) (u i) := by
  unfold hidden
  pointwise
  rfl

/-- The number of the tile of row `r`. -/
abbrev tileOf (r : Fin 20480) : Fin 40 := ⟨r.val / 512, by have := r.isLt; omega⟩

/-- A row is in use when its tile's number is below the count. -/
theorem below_count {na : IVec S1 32} (hl : (na (ValueIdx.ix1 0)).toNat ≤ 40) (r : Fin 20480) :
    IntOp.cmpi .slt (BitVec.ofNat 32 r.val) (na (ValueIdx.ix1 0) * 512#32) = BitVec.ofBool (decide (r.val / 512 < (na (ValueIdx.ix1 0)).toNat)) := by
  have hr := r.isLt
  rw [WordCmp.cmpi_slt_eq]
  refine congrArg BitVec.ofBool (decide_eq_decide.2 ?_)
  have e1 := BitVec.toInt_eq_toNat_cond (BitVec.ofNat 32 r.val)
  have e2 := BitVec.toInt_eq_toNat_cond (na (ValueIdx.ix1 0) * 512#32)
  have e3 : (na (ValueIdx.ix1 0) * 512#32).toNat = (na (ValueIdx.ix1 0)).toNat * 512 % 2 ^ 32 := BitVec.toNat_mul _ _
  have e4 : (BitVec.ofNat 32 r.val).toNat = r.val % 2 ^ 32 := BitVec.toNat_ofNat _ _
  rw [e3] at e2; rw [e4] at e1
  split at e1 <;> split at e2 <;> omega

theorem pickOf_apply (te : IVec S40 32) (na : IVec S1 32) (r : Fin 20480) (e : Fin 16) :
    pickOf te na (ix2 r e) = Scalar.select (IntOp.andi (IntOp.cmpi .eq (te (ValueIdx.ix1 (tileOf r))) (BitVec.ofNat 32 e.val))
      (IntOp.cmpi .slt (BitVec.ofNat 32 r.val) (na (ValueIdx.ix1 0) * 512#32))) (1 : EReal) (0 : EReal) := by
  have e0 : (ValueIdx.ix1 0 : S1.Idx) = ix1 0 := by funext a; match a with | ⟨0, _⟩ => rfl
  have e1 : (ValueIdx.ix1 (tileOf r) : S40.Idx) = ix1 (tileOf r) := by funext a; match a with | ⟨0, _⟩ => rfl
  rw [e0, e1]
  unfold pickOf
  pointwise
  rfl

/-- The sum of the experts' terms with the weights of row `r`: the term of its tile's expert where the tile is in use, else zero. -/
theorem sum_picked {te : IVec S40 32} {na : IVec S1 32} (h : InRange te na) (r : Fin 20480) (f : Fin 16 → EReal) :
    ∑ e : Fin 16, Scalar.select (IntOp.andi (IntOp.cmpi .eq (te (ValueIdx.ix1 (tileOf r))) (BitVec.ofNat 32 e.val))
      (IntOp.cmpi .slt (BitVec.ofNat 32 r.val) (na (ValueIdx.ix1 0) * 512#32))) (1 : EReal) (0 : EReal) * f e
      = if r.val / 512 < (na (ValueIdx.ix1 0)).toNat then f ⟨(te (ValueIdx.ix1 (tileOf r))).toNat, h.expert _⟩ else 0 := by
  by_cases hc : r.val / 512 < (na (ValueIdx.ix1 0)).toNat
  · rw [if_pos hc]
    refine (sum_one_expert ⟨(te (ValueIdx.ix1 (tileOf r))).toNat, h.expert _⟩ _ _ (fun e => ?_) _).trans (one_mul _)
    rw [below_count h.le, decide_eq_true hc, same_expert (h.expert _), WordCmp.andi_ofBool, Bool.and_true]
  · rw [if_neg hc]
    refine sum_no_expert _ _ (fun e => ?_) _
    rw [below_count h.le, decide_eq_false hc, same_expert (h.expert _), WordCmp.andi_ofBool, Bool.and_false]
    rfl

theorem spec_apply {te : IVec S40 32} {na : IVec S1 32} (h : InRange te na) (x : FVec Ideal S20480x2048 .bf16) (wg wu : FVec Ideal S16x2048x5632 .f32)
    (j : S20480x5632.Idx) : spec te na x wg wu j = if (j 0).val / 512 < (na (ValueIdx.ix1 0)).toNat then
      Cert.UpIdeal.Hand.swiglu (∑ k, x (ix2 (j 0) k) * wg (ix3 ⟨(te (ValueIdx.ix1 (tileOf (j 0)))).toNat, h.expert _⟩ k (j 1)))
        (∑ k, x (ix2 (j 0) k) * wu (ix3 ⟨(te (ValueIdx.ix1 (tileOf (j 0)))).toNat, h.expert _⟩ k (j 1))) else (0 : EReal) := by
  have e1 : spec te na x wg wu j = ∑ e, pickOf te na (ix2 (j 0) e) * hidden (products x wg) (products x wu) (ix3 e (j 0) (j 1)) := by
    unfold spec
    generalize pickOf te na = a
    generalize hidden (products x wg) (products x wu) = b
    pointwise
  have e2 : ∀ e, pickOf te na (ix2 (j 0) e) * hidden (products x wg) (products x wu) (ix3 e (j 0) (j 1))
      = Scalar.select (IntOp.andi (IntOp.cmpi .eq (te (ValueIdx.ix1 (tileOf (j 0)))) (BitVec.ofNat 32 e.val))
        (IntOp.cmpi .slt (BitVec.ofNat 32 (j 0).val) (na (ValueIdx.ix1 0) * 512#32))) (1 : EReal) (0 : EReal)
        * Cert.UpIdeal.Hand.swiglu (∑ k, x (ix2 (j 0) k) * wg (ix3 e k (j 1))) (∑ k, x (ix2 (j 0) k) * wu (ix3 e k (j 1))) := fun e =>
    congrArg₂ (· * ·) (pickOf_apply te na (j 0) e) ((hidden_apply _ _ _).trans
      (congrArg₂ Cert.UpIdeal.Hand.swiglu (products_apply x wg e (j 0) (j 1)) (products_apply x wu e (j 0) (j 1))))
  exact (e1.trans (Finset.sum_congr rfl fun e _ => e2 e)).trans (sum_picked h (j 0) fun e =>
    Cert.UpIdeal.Hand.swiglu (∑ k, x (ix2 (j 0) k) * wg (ix3 e k (j 1))) (∑ k, x (ix2 (j 0) k) * wu (ix3 e k (j 1))))

end Cert.UpReferenceIdeal.Hand

namespace Cert.UpIdeal.Hand

open Cert.UpIdeal Cert.UpIdeal.Gen
open Idealize.ShloMosaic Idealize.ShloMosaic.TcCoe
open Cert.Ranges

variable (m : (ℓ : Loc nD τ sig) → Buf (Elt Ideal) ℓ)

theorem result_eq_spec (hr : TablesInRange m) (c : Dev nD) (j : S20480x5632.Idx) :
    result m hr c j = Cert.UpReferenceIdeal.Hand.spec (experts m) (count₀ m) (rows m c) (gateW m c) (upW m c) j := by
  refine Eq.symm ((Cert.UpReferenceIdeal.Hand.spec_apply hr (rows m c) (gateW m c) (upW m c) j).trans ?_)
  unfold result
  by_cases h : (j 0).val / 512 < used m
  · exact (if_pos h).trans (if_pos h).symm
  · exact (if_neg h).trans (if_neg h).symm

end Cert.UpIdeal.Hand

end
-- ==== Proof.DownIdeal.InRange.lean ====
/- With the tables in range every block of the down projection is inside its array. -/
module

public import proofs.«01_k».proof.Proof.DownIdeal.Tables
public import proofs.«01_k».proof.Proof.Tables.Ranges

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.ShloMosaic.ValueIdx
open Cert.Ranges
open Idealize.ShloMosaic.Pipeline (Dat Cfg Window)

variable {F : FTy → Type} [FloatOps F]

theorem ok_of_inRange (pf : pre0.Contents (Elt F)) (h : InRange (pf 0) (pf 1)) : ok0 pf := by
  refine ⟨fun i => ?_, fun i => ?_⟩
  · have hi : (i 1).val < 40 := (i 1).isLt
    have e := transform_0_eq pf i
    rw [minsi_pred hi h.pos h.le] at e
    refine ⟨fun a => ?_, .inr (Affine.block_words_dvd (of_decide_eq_true rfl) (by decide))⟩
    have hle := h.le
    rw [e]
    match a with
    | ⟨0, _⟩ => show (min (i 1).val _ + 1) * 512 ≤ 20480; omega
    | ⟨1, _⟩ => show (0 + 1) * 5632 ≤ 5632; omega
  · have hi : (i 0).val < 4 := (i 0).isLt
    refine ⟨fun a => ?_, .inl rfl⟩
    have hx : (show BitVec 32 from pf 0 (tile i)).toNat < 16 := h.expert (tile i)
    rw [transform_1_eq]
    match a with
    | ⟨0, _⟩ => show ((show BitVec 32 from pf 0 (tile i)).toNat + 1) * 1 ≤ 16; omega
    | ⟨1, _⟩ => show (0 + 1) * 5632 ≤ 5632; omega
    | ⟨2, _⟩ => show ((i 0).val + 1) * 512 ≤ 2048; omega

end Cert.DownIdeal.Hand

end
-- ==== Proof.DownIdeal.Value.lean ====
/- The down projection over the reals: the result array after the last point, element by element. -/
module

public import proofs.«01_k».proof.Proof.DownIdeal.Body
public import proofs.«01_k».proof.Proof.DownIdeal.InRange
public import Idealize.ShloMosaic.Lib.Pipeline.ValueKit
public import Idealize.ShloMosaic.Lib.Pointwise
public import Idealize.ShloMosaic.PureOps.Ideal

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Cert.Ranges
open Idealize.ShloMosaic.Pipeline (Dat Cfg Window)

variable (m : (ℓ : Loc nD τ sig) → Buf (Elt Ideal) ℓ)

/-- The tables on core `c` are in range. -/
abbrev TablesInRange : Prop := InRange (V m (0 : Dev nD) main_arg0) (V m (0 : Dev nD) main_arg1)

/-- The arguments at their types: the experts' numbers, the number of row tiles in use, the rows, the weights, the gates. -/
abbrev experts : IVec S40 32 := V m (0 : Dev nD) main_arg0
abbrev used : Nat := ((V m (0 : Dev nD) main_arg1 : IVec S1 32) (ValueIdx.ix1 0)).toNat
abbrev rows (c : Dev nD) : FVec Ideal S20480x5632 .bf16 := V m c main_arg2
abbrev weights (c : Dev nD) : FVec Ideal S16x5632x2048 .f32 := V m c main_arg3
abbrev gates (c : Dev nD) : FVec Ideal S20480x1 .f32 := V m c main_arg4

theorem pay_apply (x : Vec Ideal S512x5632 .bf16) (w : Vec Ideal S1x5632x512 .f32) (g : Vec Ideal S512x1 .f32) (y : S512x512.Idx) :
    k0_pay2 x (k0_pay1 w) g y = g (ix2 (y 0) 0) * ∑ k, x (ix2 (y 0) k) * w (ix3 0 k (y 1)) := by
  pointwise [k0_pay2, k0_pay1]

/-! ## The blocks at coordinates -/

theorem iblk0_apply (hO : Ok m) (hr : TablesInRange m) (c : Dev nD) (t : Fin (cfgM m hO).N) (z : S512x5632.Idx) (u : S20480x5632.Idx)
    (h0 : (u 0).val = min (t.val % 40) (used m - 1) * 512 + (z 0).val) (h1 : (u 1).val = (z 1).val) :
    iblk m hO c 0 t z = rows m c u := by
  have e : cc0_transform_0 inb_S1_S1_0 numel1_S1 (tbl m) (grid0.coords t) = ![min (t.val % 40) (used m - 1), 0] :=
    (transform_0_eq (tbl m) (grid0.coords t)).trans (congrArg (fun n => (![n, 0] : Fin 2 → Nat))
      ((minsi_pred (grid0.coords t 1).isLt hr.pos hr.le).trans (by rw [coords1, Nat.div_one])))
  refine (View.read_apply _ _).trans ?_
  show rows m c _ = rows m c u
  congr 1; funext a; apply Fin.ext
  match a with
  | ⟨0, _⟩ =>
    show cc0_transform_0 inb_S1_S1_0 numel1_S1 (tbl m) (grid0.coords t) 0 * 512 + 1 * (z 0).val = _
    rw [e, Nat.one_mul]; exact h0.symm
  | ⟨1, _⟩ =>
    show cc0_transform_0 inb_S1_S1_0 numel1_S1 (tbl m) (grid0.coords t) 1 * 5632 + 1 * (z 1).val = _
    rw [e, Nat.one_mul]; exact ((congrArg (· + (z 1).val) (Nat.zero_mul _)).trans (Nat.zero_add _)).trans h1.symm

theorem iblk1_apply (hO : Ok m) (c : Dev nD) (t : Fin (cfgM m hO).N) (z : S1x5632x512.Idx) (u : S16x5632x2048.Idx)
    (h0 : (u 0).val = (experts m (tile (grid0.coords t))).toNat) (h1 : (u 1).val = (z 1).val)
    (h2 : (u 2).val = t.val / 40 % 4 * 512 + (z 2).val) :
    iblk m hO c 1 t z = weights m c u := by
  have e : cc0_transform_1 k0_off1_inb numel1_S1 (tbl m) (grid0.coords t) = ![(experts m (tile (grid0.coords t))).toNat, 0, t.val / 40 % 4] :=
    (transform_1_eq (tbl m) (grid0.coords t)).trans (congrArg (fun n => (![(experts m (tile (grid0.coords t))).toNat, 0, n] : Fin 3 → Nat)) (coords0 t))
  refine (View.read_apply _ _).trans ?_
  show weights m c _ = weights m c u
  congr 1; funext a; apply Fin.ext
  match a with
  | ⟨0, _⟩ =>
    have hz : (z 0).val < 1 := (z 0).isLt
    show cc0_transform_1 k0_off1_inb numel1_S1 (tbl m) (grid0.coords t) 0 * 1 + 1 * (z 0).val = _
    rw [e, Nat.one_mul, Nat.mul_one, Nat.lt_one_iff.1 hz]; exact h0.symm
  | ⟨1, _⟩ =>
    show cc0_transform_1 k0_off1_inb numel1_S1 (tbl m) (grid0.coords t) 1 * 5632 + 1 * (z 1).val = _
    rw [e, Nat.one_mul]; exact ((congrArg (· + (z 1).val) (Nat.zero_mul _)).trans (Nat.zero_add _)).trans h1.symm
  | ⟨2, _⟩ =>
    show cc0_transform_1 k0_off1_inb numel1_S1 (tbl m) (grid0.coords t) 2 * 512 + 1 * (z 2).val = _
    rw [e, Nat.one_mul]; exact h2.symm

theorem transform_2_eq (i : grid0.Coords) : cc0_transform_2 i = ![(i 1).val, 0] := by
  have hb : (i 1).val < 2 ^ 32 := lt_of_lt_of_le (i 1).isLt (by decide)
  funext a
  match a with
  | ⟨0, _⟩ => exact Nat.mod_eq_of_lt hb
  | ⟨1, _⟩ => rfl

theorem iblk2_apply (hO : Ok m) (c : Dev nD) (t : Fin (cfgM m hO).N) (z : S512x1.Idx) (u : S20480x1.Idx)
    (h0 : (u 0).val = t.val % 40 * 512 + (z 0).val) : iblk m hO c 2 t z = gates m c u := by
  have e := transform_2_eq (grid0.coords t)
  rw [coords1, Nat.div_one] at e
  refine (View.read_apply _ _).trans ?_
  show gates m c _ = gates m c u
  congr 1; funext a; apply Fin.ext
  match a with
  | ⟨0, _⟩ =>
    show cc0_transform_2 (grid0.coords t) 0 * 512 + 1 * (z 0).val = _
    rw [e, Nat.one_mul]; exact h0.symm
  | ⟨1, _⟩ =>
    have hz : (z 1).val < 1 := (z 1).isLt
    have hu : (u 1).val < 1 := (u 1).isLt
    show cc0_transform_2 (grid0.coords t) 1 * 1 + 1 * (z 1).val = (u 1).val
    rw [e, Nat.lt_one_iff.1 hz]; exact (Nat.lt_one_iff.1 hu).symm

theorem transform_3_eq (i : grid0.Coords) : cc0_transform_3 i = ![(i 1).val, (i 0).val] := by
  have hb : (i 1).val < 2 ^ 32 := lt_of_lt_of_le (i 1).isLt (by decide)
  have hb' : (i 0).val < 2 ^ 32 := lt_of_lt_of_le (i 0).isLt (by decide)
  funext a
  match a with
  | ⟨0, _⟩ => exact Nat.mod_eq_of_lt hb
  | ⟨1, _⟩ => exact Nat.mod_eq_of_lt hb'

/-- Where the array holds element `y` of the block written at point `t`. -/
abbrev emb3 (hO : Ok m) (t : Fin (cfgM m hO).N) (y : S512x512.Idx) : S20480x2048.Idx := (((cfgM m hO).win 3).blk t).view.emb y

theorem emb3_0 (hO : Ok m) (t : Fin (cfgM m hO).N) (y : S512x512.Idx) :
    (emb3 m hO t y 0).val = t.val % 40 * 512 + (y 0).val := by
  have e := transform_3_eq (grid0.coords t)
  rw [coords1, Nat.div_one] at e
  show cc0_transform_3 (grid0.coords t) 0 * 512 + 1 * (y 0).val = _
  rw [e, Nat.one_mul]; rfl

theorem emb3_1 (hO : Ok m) (t : Fin (cfgM m hO).N) (y : S512x512.Idx) :
    (emb3 m hO t y 1).val = t.val / 40 % 4 * 512 + (y 1).val := by
  have e := transform_3_eq (grid0.coords t)
  rw [coords0] at e
  show cc0_transform_3 (grid0.coords t) 1 * 512 + 1 * (y 1).val = _
  rw [e, Nat.one_mul]; rfl

/-! ## The array -/

/-- The row read for row `r` when `n` tiles are in use: its own, or of the last tile in use. -/
abbrev srcRow (n : Nat) (r : Fin 20480) : Fin 20480 := ⟨min (r.val / 512) (n - 1) * 512 + r.val % 512, by have := r.isLt; omega⟩

/-- The tile of row `r`. -/
abbrev tileOf (r : Fin 20480) : Fin 40 := ⟨r.val / 512, by have := r.isLt; omega⟩

/-- What the down projection leaves: at row `r` and column `q`, the row's gate times the product of the row read for it with
    column `q` of its tile's expert. -/
def result (hr : TablesInRange m) (c : Dev nD) : Vec Ideal S20480x2048 .f32 := fun j =>
  gates m c (ix2 (j 0) 0) * ∑ k, rows m c (ix2 (srcRow (used m) (j 0)) k)
    * weights m c (ix3 ⟨(experts m (ValueIdx.ix1 (tileOf (j 0)))).toNat, hr.expert _⟩ k (j 1))

theorem result_apply (hr : TablesInRange m) (c : Dev nD) (hO : Ok m) (t : Fin (cfgM m hO).N) (y : S512x512.Idx) :
    outAt m hO c t y = result m hr c (emb3 m hO t y) := by
  have e0 := emb3_0 m hO t y
  have e1 := emb3_1 m hO t y
  have hy0 : (y 0).val < 512 := (y 0).isLt
  have c1 := coords1 t
  generalize emb3 m hO t y = j at e0 e1 ⊢
  unfold outAt result
  refine (pay_apply _ _ _ _).trans ?_
  refine congrArg₂ (· * ·) (iblk2_apply m hO c t _ _ e0) (Finset.sum_congr rfl fun k _ => congrArg₂ (· * ·) (iblk0_apply m hO hr c t _ _ ?_ rfl) (iblk1_apply m hO c t _ _ ?_ rfl e1))
  · show min ((j 0).val / 512) (used m - 1) * 512 + (j 0).val % 512 = _ + (y 0).val
    rw [e0]
    have a : (t.val % 40 * 512 + (y 0).val) / 512 = t.val % 40 := by omega
    have b : (t.val % 40 * 512 + (y 0).val) % 512 = (y 0).val := by omega
    rw [a, b]
  · show (experts m (ValueIdx.ix1 (tileOf (j 0)))).toNat = _
    refine congrArg (fun i => (experts m (ValueIdx.ix1 i)).toNat) (Fin.ext ?_)
    show (j 0).val / 512 = (grid0.coords t 1).val
    rw [e0, c1]; omega

theorem cover3 (hO : Ok m) (j : S20480x2048.Idx) : ∃ t : Fin (cfgM m hO).N, ((cfgM m hO).win 3).flush t = true ∧ j ∈ (((cfgM m hO).win 3).blk t).view.set := by
  have h0 : (j 0).val < 20480 := (j 0).isLt
  have h1 : (j 1).val < 2048 := (j 1).isLt
  have hN : grid0.N = 160 := by decide
  let t : Fin grid0.N := ⟨(j 1).val / 512 * 40 + (j 0).val / 512, by omega⟩
  let y : S512x512.Idx := ix2 ⟨(j 0).val % 512, by omega⟩ ⟨(j 1).val % 512, by omega⟩
  refine ⟨t, flush3 _ t, ?_⟩
  have : j = emb3 m hO t y := by
    funext a; apply Fin.ext
    match a with
    | ⟨0, _⟩ => refine Eq.trans ?_ (emb3_0 m hO t y).symm; show (j 0).val = ((j 1).val / 512 * 40 + (j 0).val / 512) % 40 * 512 + (j 0).val % 512; omega
    | ⟨1, _⟩ => refine Eq.trans ?_ (emb3_1 m hO t y).symm; show (j 1).val = ((j 1).val / 512 * 40 + (j 0).val / 512) / 40 % 4 * 512 + (j 1).val % 512; omega
  rw [this]
  exact View.emb_mem_set _ _

theorem arrAt_result (hr : TablesInRange m) (hO : Ok m) (c : Dev nD) : (dats m hO 0 c).arrAt 3 (cfgM m hO).N = result m hr c := by
  refine (dats m hO 0 c).arrAt_eq_of_emb 3 (result m hr c) (fun t hf y => ?_) (cover3 m hO)
  blk_simp
  rw [after3]
  exact result_apply m hr c hO t y

end Cert.DownIdeal.Hand

end
-- ==== Proof.DownIdeal.Equation.lean ====
/- The down projection's array is the reference's, on the rows of the tiles in use. -/
module

public import proofs.«01_k».proof.Proof.DownIdeal.Value
public import proofs.«01_k».proof.Proof.Tables.Choice
public import proofs.«01_k».proof.Proof.Gen.DownReferenceIdeal.Run

@[expose] public section

set_option maxRecDepth 16384

noncomputable section

namespace Cert.DownReferenceIdeal.Hand

open Cert.DownReferenceIdeal Cert.DownReferenceIdeal.Facts₀
open Idealize.ShloMosaic Idealize.ShloMosaic.TcCoe
open Cert.Ranges

/-- The gates of every row for every expert: the row's gate at the expert of its tile, zero elsewhere. -/
abbrev gatesOf (te : IVec S40 32) (g : FVec Ideal S20480x1 .f32) : FVec Ideal S20480x16 .f32 :=
  select (cmpi .eq (broadcastInDim S20480x16 ![0, 1] bcast_S20480x1_S20480x16_0_1 (broadcastInDim S20480x1 ![0] bcast_S20480_S20480x1_0 (shapeCast _ (broadcastInDim S40x512 ![0] bcast_S40_S40x512_0 te) shapeCasts_S40x512_S20480))) (broadcastInDim S20480x16 ![0, 1] bcast_S1x16_S20480x16_0_1 (broadcastInDim S1x16 ![1] bcast_S16_S1x16_1 (iotaInDim S16 32 0)))) (broadcastInDim S20480x16 ![0, 1] bcast_S20480x1_S20480x16_0_1 g) (broadcastInDim S20480x16 ![] bcast_S_S20480x16 (id (constant S_ .f32 0x00000000#32)))

/-- Every expert's product of every row. -/
abbrev products (x : FVec Ideal S20480x5632 .bf16) (w : FVec Ideal S16x5632x2048 .f32) : FVec Ideal S16x20480x2048 .f32 :=
  transpose S16x20480x2048 [0, 2, 1] (Host.dotGeneral dot_S16x5632x2048_S20480x5632_S16x2048x20480_1_1_02_0_n_n none w (extf .f32 x bitsLt_bf16_f32)) transposes_S16x2048x20480_S16x20480x2048_0_2_1

/-- The reference's result as its operations spell it. -/
abbrev spec (te : IVec S40 32) (x : FVec Ideal S20480x5632 .bf16) (w : FVec Ideal S16x5632x2048 .f32) (g : FVec Ideal S20480x1 .f32) : FVec Ideal S20480x2048 .f32 :=
  Host.dotGeneral dot_S20480x16_S16x20480x2048_S20480x2048_1_0_n_2_0_1 none (gatesOf te g) (products x w)

theorem products_apply (x : FVec Ideal S20480x5632 .bf16) (w : FVec Ideal S16x5632x2048 .f32) (e : Fin 16) (r : Fin 20480) (q : Fin 2048) :
    products x w (ix3 e r q) = ∑ k, x (ix2 r k) * w (ix3 e k q) := by
  unfold products
  pointwise
  exact Finset.sum_congr rfl fun k _ => mul_comm _ _

theorem gatesOf_apply (te : IVec S40 32) (g : FVec Ideal S20480x1 .f32) (r : Fin 20480) (e : Fin 16) :
    gatesOf te g (ix2 r e) = Scalar.select (IntOp.cmpi .eq (te (ValueIdx.ix1 ⟨r.val / 512, by have := r.isLt; omega⟩)) (BitVec.ofNat 32 e.val))
      (g (ix2 r 0)) (0 : EReal) := by
  unfold gatesOf
  pointwise
  refine congrArg₂ (fun b z => Scalar.select b (g (ix2 r 0)) z) (congrArg (fun i => IntOp.cmpi .eq (te i) (BitVec.ofNat 32 e.val)) ?_) Ideal.ofBits_zero_f32
  funext a; match a with | ⟨0, _⟩ => rfl

theorem spec_apply {te : IVec S40 32} {na : IVec S1 32} (h : InRange te na) (x : FVec Ideal S20480x5632 .bf16) (w : FVec Ideal S16x5632x2048 .f32)
    (g : FVec Ideal S20480x1 .f32) (j : S20480x2048.Idx) :
    spec te x w g j = g (ix2 (j 0) 0) * ∑ k, x (ix2 (j 0) k)
      * w (ix3 ⟨(te (ValueIdx.ix1 ⟨(j 0).val / 512, by have : (j 0).val < 20480 := (j 0).isLt; omega⟩)).toNat, h.expert _⟩ k (j 1)) := by
  have e1 : spec te x w g j = ∑ e, gatesOf te g (ix2 (j 0) e) * products x w (ix3 e (j 0) (j 1)) := by
    unfold spec
    generalize gatesOf te g = a
    generalize products x w = b
    pointwise
  exact e1.trans ((Finset.sum_congr rfl fun e _ => congrArg₂ (· * ·) (gatesOf_apply te g (j 0) e) (products_apply x w e (j 0) (j 1))).trans
    (sum_one_expert _ _ _ (fun e => same_expert (h.expert _) e) fun e => ∑ k, x (ix2 (j 0) k) * w (ix3 e k (j 1))))

end Cert.DownReferenceIdeal.Hand

namespace Cert.DownIdeal.Hand

open Cert.DownIdeal Cert.DownIdeal.Gen
open Idealize.ShloMosaic Idealize.ShloMosaic.TcCoe
open Cert.Ranges

variable (m : (ℓ : Loc nD τ sig) → Buf (Elt Ideal) ℓ)

/-- A row of a tile in use reads its own row. -/
theorem srcRow_self {n : Nat} {r : Fin 20480} (h : r.val / 512 < n) : srcRow n r = r := Fin.ext (by
  show min (r.val / 512) (n - 1) * 512 + r.val % 512 = r.val
  rw [Nat.min_eq_left (by omega)]; omega)

theorem result_eq_spec (hr : TablesInRange m) (c : Dev nD) (j : S20480x2048.Idx) (hj : (j 0).val / 512 < used m) :
    result m hr c j = Cert.DownReferenceIdeal.Hand.spec (experts m) (rows m c) (weights m c) (gates m c) j := by
  rw [Cert.DownReferenceIdeal.Hand.spec_apply hr]
  unfold result
  rw [srcRow_self hj]

/-- The rows the claim speaks of are those of the tiles in use. -/
theorem row_of_mask [Cert.On_down_rows.Facts] {te : IVec S40 32} {na : IVec S1 32} (h : InRange te na) (x : FVec Ideal S20480x5632 .bf16)
    (w : FVec Ideal S16x5632x2048 .f32) (g : FVec Ideal S20480x1 .f32) (j : S20480x2048.Idx)
    (hj : Cert.On_down_rows.fn te na x w g j = 1#1) : (j 0).val / 512 < (na (ValueIdx.ix1 0)).toNat := by
  have hp := h.pos
  have hl := h.le
  have hj0 : (j 0).val < 20480 := (j 0).isLt
  have hc : IntOp.cmpi .slt (BitVec.ofNat 32 (j 0).val) (na (ValueIdx.ix1 0) * 512#32) = 1#1 := by
    refine Eq.trans ?_ hj
    unfold Cert.On_down_rows.fn
    pointwise
    have e : (ValueIdx.ix1 0 : S1.Idx) = ix1 0 := by funext a; match a with | ⟨0, _⟩ => rfl
    rw [e]; rfl
  rw [WordCmp.cmpi_slt_eq, WordCmp.ofBool_decide_eq_one_iff] at hc
  have e1 := BitVec.toInt_eq_toNat_cond (BitVec.ofNat 32 (j 0).val)
  have e2 := BitVec.toInt_eq_toNat_cond (na (ValueIdx.ix1 0) * 512#32)
  have e3 : (na (ValueIdx.ix1 0) * 512#32).toNat = (na (ValueIdx.ix1 0)).toNat * 512 % 2 ^ 32 := BitVec.toNat_mul _ _
  have e4 : (BitVec.ofNat 32 (j 0).val).toNat = (j 0).val % 2 ^ 32 := BitVec.toNat_ofNat _ _
  rw [e3] at e2; rw [e4] at e1
  split at e1 <;> split at e2 <;> omega

end Cert.DownIdeal.Hand

end
-- ==== Proof.Norm.Scale.lean ====
/- What a row is multiplied by in its root mean square norm, over the reals. -/
module

public import Idealize.ShloMosaic.Lib.Pointwise
public import Idealize.ShloMosaic.PureOps.Ideal

@[expose] public section

noncomputable section

namespace Cert.Norm

open Idealize.ShloMosaic

/-- One over the root mean square of a row. -/
abbrev scale (r : Fin 2048 → EReal) : EReal :=
  Ideal.rsqrt (Ideal.div (∑ k, r k * r k) (Ideal.ofBits .f32 0x45000000#32) + (Ideal.ofBits .f32 0x358637BD#32))

/-- Column `k` of four groups of 512 columns side by side. -/
abbrev joined (a b c d : Fin 512 → EReal) (k : Fin 2048) : EReal :=
  if h0 : k.val < 512 then a ⟨k.val, h0⟩
  else if h1 : k.val < 1024 then b ⟨k.val - 512, by omega⟩
  else if h2 : k.val < 1536 then c ⟨k.val - 1024, by omega⟩
  else d ⟨k.val - 1536, by have := k.isLt; omega⟩

section

variable (a b c d : Fin 512 → EReal) {k : Fin 2048} {q : Fin 512}

theorem joined_first (h : k.val = q.val) : joined a b c d k = a q := by
  have hq := q.isLt
  unfold joined
  rw [dif_pos (by omega)]
  exact congrArg a (Fin.ext h)

theorem joined_second (h : k.val = 512 + q.val) : joined a b c d k = b q := by
  have hq := q.isLt
  unfold joined
  rw [dif_neg (by omega), dif_pos (by omega)]
  exact congrArg b (Fin.ext (by dsimp only; omega))

theorem joined_third (h : k.val = 1024 + q.val) : joined a b c d k = c q := by
  have hq := q.isLt
  unfold joined
  rw [dif_neg (by omega), dif_neg (by omega), dif_pos (by omega)]
  exact congrArg c (Fin.ext (by dsimp only; omega))

theorem joined_fourth (h : k.val = 1536 + q.val) : joined a b c d k = d q := by
  have hq := q.isLt
  unfold joined
  rw [dif_neg (by omega), dif_neg (by omega), dif_neg (by omega)]
  exact congrArg d (Fin.ext (by dsimp only; omega))

end

theorem joined_congr {a b c d a' b' c' d' : Fin 512 → EReal} (ha : ∀ q, a q = a' q) (hb : ∀ q, b q = b' q) (hc : ∀ q, c q = c' q)
    (hd : ∀ q, d q = d' q) (k : Fin 2048) : joined a b c d k = joined a' b' c' d' k := by
  obtain rfl := funext ha
  obtain rfl := funext hb
  obtain rfl := funext hc
  obtain rfl := funext hd
  rfl

end Cert.Norm

end
-- ==== Proof.InProjIdeal.Body.lean ====
/- The input projection over the reals: what one grid point leaves in its block and in the rows it keeps between points. -/
module

public import proofs.«01_k».proof.Proof.Norm.Scale
public import proofs.«01_k».proof.Proof.Gen.InProjIdeal.Frame
public import Idealize.ShloMosaic.Lib.Pointwise
public import Idealize.ShloMosaic.PureOps.Ideal

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Cert.Norm

theorem zeros : (![0, 0] : Fin 2 → Nat) = fun _ => 0 := funext fun a => by fin_cases a <;> rfl

section

variable (c : Dev nD) (i : grid0.Coords)
  (a2 : Memref sig .tc .vmem S512x2048 .f32) (h2 : a2.IsWhole) (a3 : Memref sig .tc .vmem S1x2048 .f32) (h3 : a3.IsWhole)
  (a4 : Memref sig .tc .vmem S2048x1664 .bf16) (h4 : a4.IsWhole) (a5 : Memref sig .tc .vmem S512x1664 .f32) (h5 : a5.IsWhole)
  (a6 : Memref sig .tc .vmem S512x2048 .bf16) (h6 : a6.IsWhole)
  (x : Vec Ideal S512x2048 .f32) (g : Vec Ideal S1x2048 .f32) (w : Vec Ideal S2048x1664 .bf16)

/-- The first of three points keeps the normed rows. -/
theorem kept_first (hc : cond0_0 i) : sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero zeros]
  simp only [View.readAt_eq_ld, h2.read_unread, h3.read_unread, View.ld_unit_zero (S := S512x2048) zeros, View.ld_unit_zero (S := S1x2048) zeros]

/-- Its block is the product of the normed rows. -/
theorem block_first (hc : cond0_0 i) : out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero zeros, View.readCov_unit_zero (S := S512x2048) _ zeros]
  simp only [View.readAt_eq_ld, h2.read_unread, h3.read_unread, h4.read_unread, View.ld_unit_zero (S := S512x2048) zeros, View.ld_unit_zero (S := S1x2048) zeros,
    View.ld_unit_zero (S := S2048x1664) zeros]

/-- The block of a later point is the product of the rows kept. -/
theorem block_later (hc : ¬cond0_0 i) (n : Vec Ideal S512x2048 .bf16) :
    out0_B_3 c i a2 h2 a3 h3 a4 h4 a5 h5 a6 h6 hc x g w n = k0_pay2 n w := by
  unfold out0_B_3
  rw [View.read_writes_eq_canon _ _ _ (cover0_B_3 c i a2 h2 a3 h3 a4 h4 a5 h5 a6 h6 hc x g w n)]
  unfold kernelRun0_B
  dsimp only
  sl_unfold_words
  rw [View.canon_unit_zero zeros]
  simp only [View.readAt_eq_ld, h4.read_unread, h6.read_unread, View.ld_unit_zero (S := S512x2048) zeros, View.ld_unit_zero (S := S2048x1664) zeros]

end

theorem norm_apply (x : Vec Ideal S512x2048 .f32) (g : Vec Ideal S1x2048 .f32) (r : Fin 512) (k : Fin 2048) :
    k0_pay1 x g (ix2 r k) = x (ix2 r k) * scale (fun k => x (ix2 r k)) * g (ix2 0 k) := by
  pointwise [k0_pay1]

theorem product_apply (n : Vec Ideal S512x2048 .bf16) (w : Vec Ideal S2048x1664 .bf16) (y : S512x1664.Idx) :
    k0_pay2 n w y = ∑ k, n (ix2 (y 0) k) * w (ix2 k (y 1)) := by
  pointwise [k0_pay2]

end Cert.InProjIdeal.Hand

end
-- ==== Proof.InProjIdeal.Value.lean ====
/- The input projection over the reals: the rows kept between points, and the result array element by element. -/
module

public import proofs.«01_k».proof.Proof.InProjIdeal.Body
public import proofs.«01_k».proof.Proof.Gen.InProjIdeal.Value

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Cert.Norm

variable (m : (ℓ : Loc nD τ sig) → Buf (Elt Ideal) ℓ)

/-- The arguments at their types: the rows, their norm's gains, the weights. -/
abbrev rows (c : Dev nD) : FVec Ideal S8192x2048 .f32 := m ((c : Thread nD τ).loc main_arg0)
abbrev gains (c : Dev nD) : FVec Ideal S1x2048 .f32 := m ((c : Thread nD τ).loc main_arg1)
abbrev weights (c : Dev nD) : FVec Ideal S2048x4992 .bf16 := m ((c : Thread nD τ).loc main_arg2)

/-! ## The blocks at coordinates -/

theorem index0 : ∀ t : Fin cfg0.N, win0_0.index t (0 : Fin 2) = t.val / 3 ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = t.val % 3 :=
  (by decide +kernel : ∀ t : Fin grid0.N, _)

theorem iblk0_apply (c : Dev nD) (t : Fin cfg0.N) (z : S512x2048.Idx) (u : S8192x2048.Idx)
    (h0 : (u 0).val = t.val / 3 * 512 + (z 0).val) (h1 : (u 1).val = (z 1).val) : iblk m c 0 t z = rows m c u := by
  refine (View.read_apply _ _).trans ?_
  show V m c main_arg0 _ = _
  rw [V_main_arg0]
  show rows m c _ = rows m c u
  congr 1; funext a; apply Fin.ext
  match a with
  | ⟨0, _⟩ =>
    show win0_0.index t (0 : Fin 2) * 512 + 1 * (z 0).val = _
    rw [(index0 t).1, Nat.one_mul]; exact h0.symm
  | ⟨1, _⟩ =>
    show win0_0.index t (1 : Fin 2) * 2048 + 1 * (z 1).val = _
    rw [(index0 t).2, Nat.one_mul, Nat.zero_mul, Nat.zero_add]; exact h1.symm

theorem iblk1_apply (c : Dev nD) (t : Fin cfg0.N) (z : S1x2048.Idx) : iblk m c 1 t z = gains m c z := by
  refine (View.read_apply _ _).trans ?_
  show V m c main_arg1 _ = _
  rw [V_main_arg1]
  show gains m c _ = gains m c z
  congr 1; funext a; apply Fin.ext
  match a with
  | ⟨0, _⟩ =>
    show win0_1.index t (0 : Fin 2) * 1 + 1 * (z 0).val = _
    rw [(index1 t).1, Nat.one_mul, Nat.zero_mul, Nat.zero_add]; rfl
  | ⟨1, _⟩ =>
    show win0_1.index t (1 : Fin 2) * 2048 + 1 * (z 1).val = _
    rw [(index1 t).2, Nat.one_mul, Nat.zero_mul, Nat.zero_add]; rfl

theorem iblk2_apply (c : Dev nD) (t : Fin cfg0.N) (z : S2048x1664.Idx) (u : S2048x4992.Idx)
    (h0 : (u 0).val = (z 0).val) (h1 : (u 1).val = t.val % 3 * 1664 + (z 1).val) : iblk m c 2 t z = weights m c u := by
  refine (View.read_apply _ _).trans ?_
  show V m c main_arg2 _ = _
  rw [V_main_arg2]
  show weights m c _ = weights m c u
  congr 1; funext a; apply Fin.ext
  match a with
  | ⟨0, _⟩ =>
    show win0_2.index t (0 : Fin 2) * 2048 + 1 * (z 0).val = _
    rw [(index2 t).1, Nat.one_mul, Nat.zero_mul, Nat.zero_add]; exact h0.symm
  | ⟨1, _⟩ =>
    show win0_2.index t (1 : Fin 2) * 1664 + 1 * (z 1).val = _
    rw [(index2 t).2, Nat.one_mul]; exact h1.symm

/-! ## The rows kept -/

/-- Row `r` normed, at column `k`. -/
abbrev normed (c : Dev nD) (r : Fin 8192) (k : Fin 2048) : EReal :=
  rows m c (ix2 r k) * scale (fun k => rows m c (ix2 r k)) * gains m c (ix2 0 k)

/-- Row `r` of the rows read at point `n`. -/
abbrev rowOf (n : Nat) (hn : n < 48) (r : Fin 512) : Fin 8192 := ⟨n / 3 * 512 + r.val, by have := r.isLt; omega⟩

theorem norm_iblk (c : Dev nD) (t : Fin cfg0.N) (ht : t.val < 48) (r : Fin 512) (k : Fin 2048) :
    k0_pay1 (iblk m c 0 t) (iblk m c 1 t) (ix2 r k) = normed m c (rowOf t.val ht r) k := by
  have e : ∀ k : Fin 2048, iblk m c 0 t (ix2 r k) = rows m c (ix2 (rowOf t.val ht r) k) := fun k =>
    iblk0_apply m c t (ix2 r k) (ix2 (rowOf t.val ht r) k) rfl rfl
  exact (norm_apply (iblk m c 0 t) (iblk m c 1 t) r k).trans
    (congrArg₂ (· * ·) (congrArg₂ (· * ·) (e k) (congrArg scale (funext e))) (iblk1_apply m c t (ix2 0 k)))

/-- After every point the rows kept are its own rows normed: the first of three points norms them, the next two leave them. -/
theorem kept (c : Dev nD) : ∀ (n : Nat) (hn : n < cfg0.N) (h : n < 48) (r : Fin 512) (k : Fin 2048),
    (outsAt0 m c n hn).2 (ix2 r k) = normed m c (rowOf n h r) k := by
  intro n
  induction n with
  | zero =>
    intro hn h r k
    rw [outsAt0_A m c ⟨0, hn⟩ rfl]
    dsimp only
    rw [kept_first]
    exact norm_iblk m c ⟨0, hn⟩ h r k
  | succ n ih =>
    intro hn h r k
    by_cases h0 : (n + 1) % 3 = 0
    · rw [outsAt0_A m c ⟨n + 1, hn⟩ h0]
      dsimp only
      rw [kept_first]
      exact norm_iblk m c ⟨n + 1, hn⟩ h r k
    · rw [outsAt0_B m c ⟨n + 1, hn⟩ h0]
      refine (ih (Nat.lt_of_succ_lt hn) (Nat.lt_of_succ_lt h) r k).trans (congrArg (fun r => normed m c r k) (Fin.ext ?_))
      show n / 3 * 512 + r.val = (n + 1) / 3 * 512 + r.val
      omega

/-- So every point's block is the product of its rows normed with its columns of the weights. -/
theorem block (c : Dev nD) (t : Fin cfg0.N) (ht : t.val < 48) (y : S512x1664.Idx) :
    (outsAt0 m c t.val t.isLt).1 y = ∑ k, normed m c (rowOf t.val ht (y 0)) k * iblk m c 2 t (ix2 k (y 1)) := by
  by_cases h0 : t.val % 3 = 0
  · rw [outsAt0_A m c t h0]
    dsimp only
    rw [block_first]
    exact (product_apply _ _ y).trans (Finset.sum_congr rfl fun k _ => congrArg (· * _) (norm_iblk m c t ht (y 0) k))
  · rw [outsAt0_B m c t h0]
    dsimp only
    rw [block_later]
    refine (product_apply _ _ y).trans (Finset.sum_congr rfl fun k _ => congrArg (· * _) ?_)
    refine (kept m c (t.val - 1) _ (by omega) (y 0) k).trans (congrArg (fun r => normed m c r k) (Fin.ext ?_))
    show (t.val - 1) / 3 * 512 + (y 0).val = t.val / 3 * 512 + (y 0).val
    omega

/-! ## The array -/

/-- What the input projection leaves: at row `r` and column `q`, the product of the row normed with column `q` of the weights. -/
def result (c : Dev nD) : Vec Ideal S8192x4992 .f32 := fun j => ∑ k, normed m c (j 0) k * weights m c (ix2 k (j 1))

theorem array (c : Dev nD) : Value.G3 m c = result m c := by
  funext j
  have h0 : (j 0).val < 8192 := (j 0).isLt
  have h1 : (j 1).val < 4992 := (j 1).isLt
  have hp : Value.pt3Of j < 48 := by show 3 * ((j 0).val / 512 - 0) + 1 * ((j 1).val / 1664 - 0) < 48; omega
  have hN : Value.pt3Of j < cfg0.N := lt_of_lt_of_eq hp N_0.symm
  have e0 : Value.pt3Of j / 3 = (j 0).val / 512 := by show (3 * ((j 0).val / 512 - 0) + 1 * ((j 1).val / 1664 - 0)) / 3 = _; omega
  have e1 : Value.pt3Of j % 3 = (j 1).val / 1664 := by show (3 * ((j 0).val / 512 - 0) + 1 * ((j 1).val / 1664 - 0)) % 3 = _; omega
  unfold Value.G3
  rw [dif_pos hN, ← Value.outsAt0_sweep m c _ hN]
  refine (block m c ⟨Value.pt3Of j, hN⟩ hp (Value.loc3Of j)).trans (Finset.sum_congr rfl fun k _ => congrArg₂ (· * ·) ?_ ?_)
  · refine congrArg (fun r => normed m c r k) (Fin.ext ?_)
    show Value.pt3Of j / 3 * 512 + (j 0).val % 512 = (j 0).val
    rw [e0]; omega
  · refine iblk2_apply m c ⟨Value.pt3Of j, hN⟩ (ix2 k (Value.loc3Of j 1)) (ix2 k (j 1)) rfl ?_
    show (j 1).val = Value.pt3Of j % 3 * 1664 + (j 1).val % 1664
    rw [e1]; omega

end Cert.InProjIdeal.Hand

end
-- ==== Proof.InProjIdeal.Equation.lean ====
/- The input projection's array is the reference's. -/
module

public import proofs.«01_k».proof.Proof.InProjIdeal.Value
public import proofs.«01_k».proof.Proof.Gen.InProjReferenceIdeal.Run

@[expose] public section

set_option maxRecDepth 16384

noncomputable section

namespace Cert.InProjReferenceIdeal.Hand

open Cert.InProjReferenceIdeal Cert.InProjReferenceIdeal.Facts₀
open Idealize.ShloMosaic Idealize.ShloMosaic.TcCoe

/-- The normed rows. -/
abbrev normOf (x : FVec Ideal S8192x2048 .f32) (g : FVec Ideal S1x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 g)

/-- The reference's result as its operations spell it. -/
abbrev spec (x : FVec Ideal S8192x2048 .f32) (g : FVec Ideal S1x2048 .f32) (w : FVec Ideal S2048x4992 .bf16) : FVec Ideal S8192x4992 .f32 :=
  Host.dotGeneral dot_S8192x2048_S2048x4992_S8192x4992_1_0_0_1_n_n none (normOf x g) (extf .f32 w bitsLt_bf16_f32)

theorem normOf_apply (x : FVec Ideal S8192x2048 .f32) (g : FVec Ideal S1x2048 .f32) (r : Fin 8192) (k : Fin 2048) :
    normOf x g (ix2 r k) = x (ix2 r k) * Cert.Norm.scale (fun k => x (ix2 r k)) * g (ix2 0 k) := by
  unfold normOf
  pointwise

theorem spec_apply (x : FVec Ideal S8192x2048 .f32) (g : FVec Ideal S1x2048 .f32) (w : FVec Ideal S2048x4992 .bf16) (j : S8192x4992.Idx) :
    spec x g w j = ∑ k, x (ix2 (j 0) k) * Cert.Norm.scale (fun k => x (ix2 (j 0) k)) * g (ix2 0 k) * w (ix2 k (j 1)) := by
  have e : spec x g w j = ∑ k, normOf x g (ix2 (j 0) k) * w (ix2 k (j 1)) := by
    unfold spec
    generalize normOf x g = n
    pointwise
  exact e.trans (Finset.sum_congr rfl fun k _ => congrArg (· * _) (normOf_apply x g (j 0) k))

end Cert.InProjReferenceIdeal.Hand

namespace Cert.InProjIdeal.Hand

open Cert.InProjIdeal Cert.InProjIdeal.Gen
open Idealize.ShloMosaic Idealize.ShloMosaic.TcCoe

theorem result_eq_spec (m : (ℓ : Loc nD τ sig) → Buf (Elt Ideal) ℓ) (c : Dev nD) :
    result m c = Cert.InProjReferenceIdeal.Hand.spec (rows m c) (gains m c) (weights m c) :=
  funext fun j => (Cert.InProjReferenceIdeal.Hand.spec_apply (rows m c) (gains m c) (weights m c) j).symm

end Cert.InProjIdeal.Hand

end
-- ==== Proof.OutProjIdeal.Body.lean ====
/- The output projection over the reals: what one grid point leaves in its two blocks. -/
module

public import proofs.«01_k».proof.Proof.Norm.Scale
public import proofs.«01_k».proof.Proof.Gen.OutProjIdeal.Frame
public import Idealize.ShloMosaic.Lib.Pipeline.Value

@[expose] public section

set_option maxRecDepth 16384

noncomputable section

namespace Cert.OutProjIdeal.Hand

open Cert.OutProjIdeal Cert.OutProjIdeal.Gen
open Idealize.ShloMosaic Idealize.ShloMosaic.TcCoe Idealize.ShloMosaic.Tactic
open Cert.Norm

theorem zeros : (![0, 0] : Fin 2 → Nat) = fun _ => 0 := funext fun a => by fin_cases a <;> rfl

/-- The four groups side by side, the last the sum of its branches. -/
def left (a b c d1 d2 d3 : Vec Ideal S256x512 .bf16) : Vec Ideal S256x2048 .bf16 := fun j =>
  joined (fun q => a (ix2 (j 0) q)) (fun q => b (ix2 (j 0) q)) (fun q => c (ix2 (j 0) q))
    (fun q => d1 (ix2 (j 0) q) + d2 (ix2 (j 0) q) + d3 (ix2 (j 0) q)) (j 1)

/-- What the four stores leave. -/
abbrev stored (a b c d1 d2 d3 : Vec Ideal S256x512 .bf16) : List (View.Piece (Elt Ideal) S256x2048 .bf16) :=
  [⟨Rect.unit (s := S256x2048) ![0, 1536] S256x512.size inb_S256x2048_S256x512_0_1536, k0_pay6 d1 d2 d3⟩,
   ⟨Rect.unit (s := S256x2048) ![0, 1024] S256x512.size inb_S256x2048_S256x512_0_1024, k0_pay5 c⟩,
   ⟨Rect.unit (s := S256x2048) ![0, 512] S256x512.size inb_S256x2048_S256x512_0_512, k0_pay4 b⟩,
   ⟨Rect.unit (s := S256x2048) ![0, 0] S256x512.size inb_S256x2048_S256x512_0_0, k0_pay3 a⟩]

/-- The index a row and a column of a group make. -/
theorem ix2_of_row {r : Fin 256} {x : S256x512.Idx} (h : r.val = (x 0).val) : ix2 r (x 1) = x :=
  funext fun p => match p with
    | 0 => Fin.ext h
    | 1 => rfl

section

variable (a b c d1 d2 d3 : Vec Ideal S256x512 .bf16) {y : S256x2048.Idx} {x : S256x512.Idx} (h0 : (y 0).val = (x 0).val)
include h0

theorem left_first (h1 : (y 1).val = (x 1).val) : left a b c d1 d2 d3 y = a x := by
  unfold left
  exact (joined_first _ _ _ _ (q := x 1) h1).trans (congrArg a (ix2_of_row h0))

theorem left_second (h1 : (y 1).val = 512 + (x 1).val) : left a b c d1 d2 d3 y = b x := by
  unfold left
  exact (joined_second _ _ _ _ (q := x 1) h1).trans (congrArg b (ix2_of_row h0))

theorem left_third (h1 : (y 1).val = 1024 + (x 1).val) : left a b c d1 d2 d3 y = c x := by
  unfold left
  exact (joined_third _ _ _ _ (q := x 1) h1).trans (congrArg c (ix2_of_row h0))

theorem left_fourth (h1 : (y 1).val = 1536 + (x 1).val) : left a b c d1 d2 d3 y = d1 x + d2 x + d3 x := by
  unfold left
  exact (joined_fourth _ _ _ _ (q := x 1) h1).trans (congrArg (fun z => d1 z + d2 z + d3 z) (ix2_of_row h0))

end

theorem branches_apply (d1 d2 d3 : Vec Ideal S256x512 .bf16) (x : S256x512.Idx) : k0_pay6 d1 d2 d3 x = d1 x + d2 x + d3 x := by
  pointwise [k0_pay6]

theorem canon_stored (a b c d1 d2 d3 : Vec Ideal S256x512 .bf16) : View.canon (stored a b c d1 d2 d3) = left a b c d1 d2 d3 := by
  funext y
  have h0 : (y 0).val < 256 := (y 0).isLt
  have h1 : (y 1).val < 2048 := (y 1).isLt
  refine View.canon_apply_of_pieces _ _ (fun p hp => ?_) y ?_
  · simp only [List.mem_cons, List.not_mem_nil, or_false] at hp
    rcases hp with rfl | rfl | rfl | rfl
    all_goals intro x
    · exact (branches_apply d1 d2 d3 x).trans (left_fourth a b c d1 d2 d3 ((Rect.emb_apply _ x 0).trans (by simp))
        ((Rect.emb_apply _ x 1).trans (by simp))).symm
    · exact (congrFun (shapeCast_self _ _) x).trans (left_third a b c d1 d2 d3 ((Rect.emb_apply _ x 0).trans (by simp))
        ((Rect.emb_apply _ x 1).trans (by simp))).symm
    · exact (congrFun (shapeCast_self _ _) x).trans (left_second a b c d1 d2 d3 ((Rect.emb_apply _ x 0).trans (by simp))
        ((Rect.emb_apply _ x 1).trans (by simp))).symm
    · exact (congrFun (shapeCast_self _ _) x).trans (left_first a b c d1 d2 d3 ((Rect.emb_apply _ x 0).trans (by simp))
        ((Rect.emb_apply _ x 1).trans (by simp))).symm
  · simp only [List.mem_cons, List.not_mem_nil, or_false, exists_eq_or_imp, exists_eq_left, Rect.mem_set_unit]
    have k : ∀ o : Nat, o ≤ (y 1).val → (y 1).val < o + 512 →
        ∀ p : Fin 2, (![0, o] : Fin 2 → Nat) p ≤ (y p).val ∧ (y p).val < (![0, o] : Fin 2 → Nat) p + (![256, 512] : Fin 2 → Nat) p := by
      intro o hl hu p
      fin_cases p
      · exact ⟨Nat.zero_le _, by simpa using h0⟩
      · exact ⟨hl, hu⟩
    by_cases c1 : (y 1).val < 512
    · exact Or.inr (Or.inr (Or.inr (k 0 (Nat.zero_le _) (by omega))))
    by_cases c2 : (y 1).val < 1024
    · exact Or.inr (Or.inr (Or.inl (k 512 (by omega) (by omega))))
    by_cases c3 : (y 1).val < 1536
    · exact Or.inr (Or.inl (k 1024 (by omega) (by omega)))
    · exact Or.inl (k 1536 (by omega) (by omega))

/-- The four stores read back whole. -/
theorem left_read (a b c d1 d2 d3 : Vec Ideal S256x512 .bf16) :
    (fun j => View.canon (stored a b c d1 d2 d3)
      ((Rect.unit (s := S256x2048) ![0, 0] S256x2048.size inb_S256x2048_S256x2048_0_0).idx j)) = left a b c d1 d2 d3 :=
  funext fun j => (congrFun (canon_stored a b c d1 d2 d3) _).trans
    (congrArg (left a b c d1 d2 d3) (funext fun p => Fin.ext (by
      refine (Rect.emb_apply _ j p).trans ?_
      fin_cases p <;> simp)))

section

variable (c : Dev nD) (i : grid0.Coords)
  (m1 : Memref sig .tc .vmem S256x512 .bf16) (h1 : m1.IsWhole) (m2 : Memref sig .tc .vmem S256x512 .bf16) (h2 : m2.IsWhole)
  (m3 : Memref sig .tc .vmem S256x512 .bf16) (h3 : m3.IsWhole) (m4 : Memref sig .tc .vmem S256x512 .bf16) (h4 : m4.IsWhole)
  (m5 : Memref sig .tc .vmem S256x512 .bf16) (h5 : m5.IsWhole) (m6 : Memref sig .tc .vmem S256x512 .bf16) (h6 : m6.IsWhole)
  (m7 : Memref sig .tc .vmem S2048x2048 .bf16) (h7 : m7.IsWhole) (m8 : Memref sig .tc .vmem S256x2048 .f32) (h8 : m8.IsWhole)
  (m9 : Memref sig .tc .vmem S1x2048 .f32) (h9 : m9.IsWhole) (m10 : Memref sig .tc .vmem S256x2048 .f32) (h10 : m10.IsWhole)
  (m11 : Memref sig .tc .vmem S256x2048 .bf16) (h11 : m11.IsWhole) (m12 : Memref sig .tc .vmem S256x2048 .bf16) (h12 : m12.IsWhole)
  (a b e d1 d2 d3 : Vec Ideal S256x512 .bf16) (w : Vec Ideal S2048x2048 .bf16) (x : Vec Ideal S256x2048 .f32) (g : Vec Ideal S1x2048 .f32)

theorem block_sum : out0_A_9 c i m1 h1 m2 h2 m3 h3 m4 h4 m5 h5 m6 h6 m7 h7 m8 h8 m9 h9 m10 h10 m11 h11 m12 h12 a b e d1 d2 d3 w x g
    = k0_pay1 x (k0_pay7 (left a b e d1 d2 d3) w) := by
  unfold out0_A_9
  rw [View.read_writes_eq_canon _ _ _ (cover0_A_9 c i m1 h1 m2 h2 m3 h3 m4 h4 m5 h5 m6 h6 m7 h7 m8 h8 m9 h9 m10 h10 m11 h11 m12 h12 a b e d1 d2 d3 w x g)]
  unfold kernelRun0_A
  dsimp only
  sl_unfold_words
  rw [View.canon_unit_zero zeros, View.readCov_eq_canon']
  simp only [View.readAt_eq_ld, h1.read_unread, h2.read_unread, h3.read_unread, h4.read_unread, h5.read_unread, h6.read_unread,
    h7.read_unread, h8.read_unread, View.ld_unit_zero (S := S256x512) zeros, View.ld_unit_zero (S := S2048x2048) zeros,
    View.ld_unit_zero (S := S256x2048) zeros]
  exact congrArg (fun n => k0_pay1 x (k0_pay7 n w)) (left_read a b e d1 d2 d3)

theorem block_norm : out0_A_10 c i m1 h1 m2 h2 m3 h3 m4 h4 m5 h5 m6 h6 m7 h7 m8 h8 m9 h9 m10 h10 m11 h11 m12 h12 a b e d1 d2 d3 w x g
    = k0_pay2 x (k0_pay7 (left a b e d1 d2 d3) w) g := by
  unfold out0_A_10
  rw [View.read_writes_eq_canon _ _ _ (cover0_A_10 c i m1 h1 m2 h2 m3 h3 m4 h4 m5 h5 m6 h6 m7 h7 m8 h8 m9 h9 m10 h10 m11 h11 m12 h12 a b e d1 d2 d3 w x g)]
  unfold kernelRun0_A
  dsimp only
  sl_unfold_words
  rw [View.canon_unit_zero zeros, View.readCov_eq_canon']
  simp only [View.readAt_eq_ld, h1.read_unread, h2.read_unread, h3.read_unread, h4.read_unread, h5.read_unread, h6.read_unread,
    h7.read_unread, h8.read_unread, h9.read_unread, View.ld_unit_zero (S := S256x512) zeros, View.ld_unit_zero (S := S2048x2048) zeros,
    View.ld_unit_zero (S := S256x2048) zeros, View.ld_unit_zero (S := S1x2048) zeros]
  exact congrArg (fun n => k0_pay2 x (k0_pay7 n w) g) (left_read a b e d1 d2 d3)

end

theorem norm_apply (x y : Vec Ideal S256x2048 .f32) (g : Vec Ideal S1x2048 .f32) (r : Fin 256) (k : Fin 2048) :
    k0_pay2 x y g (ix2 r k) = k0_pay1 x y (ix2 r k) * scale (fun k => k0_pay1 x y (ix2 r k)) * g (ix2 0 k) := by
  unfold k0_pay2
  generalize k0_pay1 x y = z
  pointwise

theorem sum_apply (n : Vec Ideal S256x2048 .bf16) (w : Vec Ideal S2048x2048 .bf16) (x : Vec Ideal S256x2048 .f32) (y : S256x2048.Idx) :
    k0_pay1 x (k0_pay7 n w) y = x y + ∑ k, n (ix2 (y 0) k) * w (ix2 k (y 1)) := by
  pointwise [k0_pay1, k0_pay7]

end Cert.OutProjIdeal.Hand

end
-- ==== Proof.OutProjIdeal.Value.lean ====
/- The output projection over the reals: its two result arrays element by element. -/
module

public import proofs.«01_k».proof.Proof.OutProjIdeal.Body
public import proofs.«01_k».proof.Proof.Gen.OutProjIdeal.Value
public import Idealize.ShloMosaic.Lib.Pipeline.ValueKit

@[expose] public section

set_option maxRecDepth 16384

noncomputable section

namespace Cert.OutProjIdeal.Hand

open Cert.OutProjIdeal Cert.OutProjIdeal.Gen
open Idealize.ShloMosaic Idealize.ShloMosaic.TcCoe Idealize.ShloMosaic.Tactic
open Idealize.ShloMosaic.Pipeline (Dat Cfg Window)
open Cert.Norm

variable (m : (ℓ : Loc nD τ sig) → Buf (Elt Ideal) ℓ)

/-- The arguments at their types: three groups, the three branches of the fourth, the weights, the rows added to, the gains. -/
abbrev groupA (c : Dev nD) : FVec Ideal S8192x512 .bf16 := m ((c : Thread nD τ).loc main_arg0)
abbrev groupB (c : Dev nD) : FVec Ideal S8192x512 .bf16 := m ((c : Thread nD τ).loc main_arg1)
abbrev groupC (c : Dev nD) : FVec Ideal S8192x512 .bf16 := m ((c : Thread nD τ).loc main_arg2)
abbrev branch1 (c : Dev nD) : FVec Ideal S8192x512 .bf16 := m ((c : Thread nD τ).loc main_arg3)
abbrev branch2 (c : Dev nD) : FVec Ideal S8192x512 .bf16 := m ((c : Thread nD τ).loc main_arg4)
abbrev branch3 (c : Dev nD) : FVec Ideal S8192x512 .bf16 := m ((c : Thread nD τ).loc main_arg5)
abbrev weights (c : Dev nD) : FVec Ideal S2048x2048 .bf16 := m ((c : Thread nD τ).loc main_arg6)
abbrev rows (c : Dev nD) : FVec Ideal S8192x2048 .f32 := m ((c : Thread nD τ).loc main_arg7)
abbrev gains (c : Dev nD) : FVec Ideal S1x2048 .f32 := m ((c : Thread nD τ).loc main_arg8)

/-! ## The blocks at coordinates -/

theorem index_rows : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0)
    ∧ (win0_7.index t (0 : Fin 2) = t.val ∧ win0_7.index t (1 : Fin 2) = 0) ∧ (win0_9.index t (0 : Fin 2) = t.val ∧ win0_9.index t (1 : Fin 2) = 0)
    ∧ (win0_10.index t (0 : Fin 2) = t.val ∧ win0_10.index t (1 : Fin 2) = 0) := (by decide +kernel : ∀ t : Fin grid0.N, _)

theorem index_whole : ∀ t : Fin cfg0.N, (win0_6.index t (0 : Fin 2) = 0 ∧ win0_6.index t (1 : Fin 2) = 0)
    ∧ (win0_8.index t (0 : Fin 2) = 0 ∧ win0_8.index t (1 : Fin 2) = 0) := (by decide +kernel : ∀ t : Fin grid0.N, _)

theorem row_val {a n y u : Nat} (e : a = n) (h : u = n * 256 + y) : a * 256 + 1 * y = u := by omega
theorem col_val {a n y u : Nat} (e : a = 0) (h : u = y) : a * n + 1 * y = u := by rw [e, Nat.zero_mul, Nat.one_mul, Nat.zero_add]; exact h.symm

/-- Two indices of two coordinates are equal when their coordinates are. -/
theorem idx_ext {s0 s1 : Nat} {i u : (⟨2, ![s0, s1]⟩ : Shape).Idx} (h0 : (i 0).val = (u 0).val) (h1 : (i 1).val = (u 1).val) : i = u :=
  funext fun p => match p with
    | 0 => Fin.ext h0
    | 1 => Fin.ext h1

section

variable (c : Dev nD) (t : Fin cfg0.N)

section

variable {z : S256x512.Idx} {u : S8192x512.Idx} (h0 : (u 0).val = t.val * 256 + (z 0).val) (h1 : (u 1).val = (z 1).val)
include h0 h1

theorem iblk0_apply : iblk m c 0 t z = groupA m c u :=
  (View.read_apply _ _).trans ((congrFun (V_main_arg0 m c) _).trans
    (congrArg (groupA m c) (idx_ext (row_val (index_rows t).1.1 h0) (col_val (index_rows t).1.2 h1))))

theorem iblk1_apply : iblk m c 1 t z = groupB m c u :=
  (View.read_apply _ _).trans ((congrFun (V_main_arg1 m c) _).trans
    (congrArg (groupB m c) (idx_ext (row_val (index_rows t).2.1.1 h0) (col_val (index_rows t).2.1.2 h1))))

theorem iblk2_apply : iblk m c 2 t z = groupC m c u :=
  (View.read_apply _ _).trans ((congrFun (V_main_arg2 m c) _).trans
    (congrArg (groupC m c) (idx_ext (row_val (index_rows t).2.2.1.1 h0) (col_val (index_rows t).2.2.1.2 h1))))

theorem iblk3_apply : iblk m c 3 t z = branch1 m c u :=
  (View.read_apply _ _).trans ((congrFun (V_main_arg3 m c) _).trans
    (congrArg (branch1 m c) (idx_ext (row_val (index_rows t).2.2.2.1.1 h0) (col_val (index_rows t).2.2.2.1.2 h1))))

theorem iblk4_apply : iblk m c 4 t z = branch2 m c u :=
  (View.read_apply _ _).trans ((congrFun (V_main_arg4 m c) _).trans
    (congrArg (branch2 m c) (idx_ext (row_val (index_rows t).2.2.2.2.1.1 h0) (col_val (index_rows t).2.2.2.2.1.2 h1))))

theorem iblk5_apply : iblk m c 5 t z = branch3 m c u :=
  (View.read_apply _ _).trans ((congrFun (V_main_arg5 m c) _).trans
    (congrArg (branch3 m c) (idx_ext (row_val (index_rows t).2.2.2.2.2.1.1 h0) (col_val (index_rows t).2.2.2.2.2.1.2 h1))))

end

theorem iblk6_apply (z : S2048x2048.Idx) : iblk m c 6 t z = weights m c z :=
  (View.read_apply _ _).trans ((congrFun (V_main_arg6 m c) _).trans
    (congrArg (weights m c) (idx_ext (col_val (index_whole t).1.1 rfl) (col_val (index_whole t).1.2 rfl))))

theorem iblk7_apply {z : S256x2048.Idx} {u : S8192x2048.Idx} (h0 : (u 0).val = t.val * 256 + (z 0).val) (h1 : (u 1).val = (z 1).val) :
    iblk m c 7 t z = rows m c u :=
  (View.read_apply _ _).trans ((congrFun (V_main_arg7 m c) _).trans
    (congrArg (rows m c) (idx_ext (row_val (index_rows t).2.2.2.2.2.2.1.1 h0) (col_val (index_rows t).2.2.2.2.2.2.1.2 h1))))

theorem iblk8_apply (z : S1x2048.Idx) : iblk m c 8 t z = gains m c z :=
  (View.read_apply _ _).trans ((congrFun (V_main_arg8 m c) _).trans
    (congrArg (gains m c) (idx_ext (col_val (index_whole t).2.1 rfl) (col_val (index_whole t).2.2 rfl))))

end

/-! ## The arrays -/

/-- Row `r` of the groups side by side, at column `k`; the fourth group is the sum of its branches. -/
abbrev groups (c : Dev nD) (r : Fin 8192) (k : Fin 2048) : EReal :=
  joined (fun q => groupA m c (ix2 r q)) (fun q => groupB m c (ix2 r q)) (fun q => groupC m c (ix2 r q))
    (fun q => branch1 m c (ix2 r q) + branch2 m c (ix2 r q) + branch3 m c (ix2 r q)) k

/-- Row `r` with its projected groups added, at column `q`. -/
abbrev total (c : Dev nD) (r : Fin 8192) (q : Fin 2048) : EReal :=
  rows m c (ix2 r q) + ∑ k, groups m c r k * weights m c (ix2 k q)

/-- What the output projection leaves: the rows with their projected groups added, -/
def resultSum (c : Dev nD) : Vec Ideal S8192x2048 .f32 := fun j => total m c (j 0) (j 1)

/-- and those rows normed. -/
def resultNorm (c : Dev nD) : Vec Ideal S8192x2048 .bf16 := fun j =>
  total m c (j 0) (j 1) * scale (fun k => total m c (j 0) k) * gains m c (ix2 0 (j 1))

/-- Row `r` of the rows read at point `t`. -/
abbrev rowOf (t : Fin cfg0.N) (r : Fin 256) : Fin 8192 :=
  ⟨t.val * 256 + r.val, by have := r.isLt; have := lt_of_lt_of_eq t.isLt N_0; omega⟩

/-- A point's groups side by side are its rows of the whole arrays'. -/
theorem left_iblk (c : Dev nD) (t : Fin cfg0.N) (r : Fin 256) (k : Fin 2048) :
    left (iblk m c 0 t) (iblk m c 1 t) (iblk m c 2 t) (iblk m c 3 t) (iblk m c 4 t) (iblk m c 5 t) (ix2 r k) = groups m c (rowOf t r) k := by
  unfold left
  exact joined_congr (fun q => iblk0_apply m c t rfl rfl) (fun q => iblk1_apply m c t rfl rfl) (fun q => iblk2_apply m c t rfl rfl)
    (fun q => congrArg₂ (fun a b : EReal => a + b) (congrArg₂ (fun a b : EReal => a + b) (iblk3_apply m c t rfl rfl) (iblk4_apply m c t rfl rfl)) (iblk5_apply m c t rfl rfl)) k

/-- The rows a point leaves in its first block, -/
abbrev sumAt (c : Dev nD) (t : Fin cfg0.N) : Vec Ideal S256x2048 .f32 :=
  k0_pay7 (left (iblk m c 0 t) (iblk m c 1 t) (iblk m c 2 t) (iblk m c 3 t) (iblk m c 4 t) (iblk m c 5 t)) (iblk m c 6 t)

theorem sumAt_apply (c : Dev nD) (t : Fin cfg0.N) (r : Fin 256) (q : Fin 2048) :
    k0_pay1 (iblk m c 7 t) (sumAt m c t) (ix2 r q) = total m c (rowOf t r) q :=
  (sum_apply _ (iblk m c 6 t) (iblk m c 7 t) (ix2 r q)).trans (congrArg₂ (· + ·) (iblk7_apply m c t rfl rfl)
    (Finset.sum_congr rfl fun k _ => congrArg₂ (· * ·) (left_iblk m c t r k) (iblk6_apply m c t (ix2 k q))))

theorem normAt_apply (c : Dev nD) (t : Fin cfg0.N) (r : Fin 256) (q : Fin 2048) :
    k0_pay2 (iblk m c 7 t) (sumAt m c t) (iblk m c 8 t) (ix2 r q)
      = total m c (rowOf t r) q * scale (fun k => total m c (rowOf t r) k) * gains m c (ix2 0 q) :=
  (norm_apply (iblk m c 7 t) (sumAt m c t) (iblk m c 8 t) r q).trans
    (congrArg₂ (· * ·) (congrArg₂ (· * ·) (sumAt_apply m c t r q) (congrArg scale (funext fun k => sumAt_apply m c t r k)))
      (iblk8_apply m c t (ix2 0 q)))

/-- Where the first array holds element `y` of the block written at point `t`, and the second. -/
abbrev emb9 (t : Fin cfg0.N) (y : S256x2048.Idx) : S8192x2048.Idx := ((cfg0.win 9).blk t).view.emb y
abbrev emb10 (t : Fin cfg0.N) (y : S256x2048.Idx) : S8192x2048.Idx := ((cfg0.win 10).blk t).view.emb y

theorem emb9_eq (t : Fin cfg0.N) (y : S256x2048.Idx) : emb9 t y = ix2 (rowOf t (y 0)) (y 1) :=
  idx_ext (row_val (index_rows t).2.2.2.2.2.2.2.1.1 rfl) (col_val (index_rows t).2.2.2.2.2.2.2.1.2 rfl)

theorem emb10_eq (t : Fin cfg0.N) (y : S256x2048.Idx) : emb10 t y = ix2 (rowOf t (y 0)) (y 1) :=
  idx_ext (row_val (index_rows t).2.2.2.2.2.2.2.2.1 rfl) (col_val (index_rows t).2.2.2.2.2.2.2.2.2 rfl)

/-- Every index is that of some point's block. -/
theorem point_of (j : S8192x2048.Idx) : ∃ (t : Fin cfg0.N) (y : S256x2048.Idx), ix2 (rowOf t (y 0)) (y 1) = j := by
  have h0 : (j 0).val < 8192 := (j 0).isLt
  refine ⟨⟨(j 0).val / 256, lt_of_lt_of_eq (by omega) N_0.symm⟩, ix2 ⟨(j 0).val % 256, by omega⟩ (j 1), idx_ext ?_ rfl⟩
  show (j 0).val / 256 * 256 + (j 0).val % 256 = (j 0).val
  omega

theorem cover9 (j : S8192x2048.Idx) : ∃ t : Fin cfg0.N, (cfg0.win 9).flush t = true ∧ j ∈ ((cfg0.win 9).blk t).view.set := by
  obtain ⟨t, y, h⟩ := point_of j
  refine ⟨t, flush0_9 t, ?_⟩
  rw [← h, ← emb9_eq]
  exact View.emb_mem_set _ _

theorem cover10 (j : S8192x2048.Idx) : ∃ t : Fin cfg0.N, (cfg0.win 10).flush t = true ∧ j ∈ ((cfg0.win 10).blk t).view.set := by
  obtain ⟨t, y, h⟩ := point_of j
  refine ⟨t, flush0_10 t, ?_⟩
  rw [← h, ← emb10_eq]
  exact View.emb_mem_set _ _

theorem array_sum (c : Dev nD) : (dats m 0 c).arrAt 9 cfg0.N = resultSum m c := by
  refine (dats m 0 c).arrAt_eq_of_emb 9 (resultSum m c) (fun t hf y => ?_) cover9
  blk_simp
  rw [after0_9]
  show (outsAt0 m c t).1 y = resultSum m c (emb9 t y)
  rw [emb9_eq]
  unfold outsAt0
  dsimp only
  rw [block_sum]
  have e : y = ix2 (y 0) (y 1) := idx_ext rfl rfl
  exact (congrArg _ e).trans (sumAt_apply m c t (y 0) (y 1))

theorem array_norm (c : Dev nD) : (dats m 0 c).arrAt 10 cfg0.N = resultNorm m c := by
  refine (dats m 0 c).arrAt_eq_of_emb 10 (resultNorm m c) (fun t hf y => ?_) cover10
  blk_simp
  rw [after0_10]
  show (outsAt0 m c t).2 y = resultNorm m c (emb10 t y)
  rw [emb10_eq]
  unfold outsAt0
  dsimp only
  rw [block_norm]
  have e : y = ix2 (y 0) (y 1) := idx_ext rfl rfl
  exact (congrArg _ e).trans (normAt_apply m c t (y 0) (y 1))

end Cert.OutProjIdeal.Hand

end
-- ==== Proof.OutProjIdeal.Equation.lean ====
/- The output projection's arrays are the reference's. -/
module

public import proofs.«01_k».proof.Proof.OutProjIdeal.Value
public import proofs.«01_k».proof.Proof.Gen.OutProjReferenceIdeal.Run

@[expose] public section

set_option maxRecDepth 16384

noncomputable section

namespace Cert.OutProjReferenceIdeal.Hand

open Cert.OutProjReferenceIdeal Cert.OutProjReferenceIdeal.Facts₀
open Idealize.ShloMosaic Idealize.ShloMosaic.TcCoe
open Cert.Norm

/-- The groups side by side, the fourth the sum of its branches. -/
abbrev groupsOf (a b c d1 d2 d3 : FVec Ideal S8192x512 .bf16) : FVec Ideal S8192x2048 .f32 :=
  (concatenate S8192x2048 1 [⟨S8192x512, ((extf .f32 a bitsLt_bf16_f32) : (⟨S8192x512, .f32⟩ : BufTy).Contents (Elt Ideal))⟩, ⟨S8192x512, ((extf .f32 b bitsLt_bf16_f32) : (⟨S8192x512, .f32⟩ : BufTy).Contents (Elt Ideal))⟩, ⟨S8192x512, ((extf .f32 c bitsLt_bf16_f32) : (⟨S8192x512, .f32⟩ : BufTy).Contents (Elt Ideal))⟩, ⟨S8192x512, ((addf (addf (extf .f32 d1 bitsLt_bf16_f32) (extf .f32 d2 bitsLt_bf16_f32)) (extf .f32 d3 bitsLt_bf16_f32)) : (⟨S8192x512, .f32⟩ : BufTy).Contents (Elt Ideal))⟩] concatenates_S8192x512_S8192x512_S8192x512_S8192x512_S8192x2048_d1 : (⟨S8192x2048, .f32⟩ : BufTy).Contents (Elt Ideal))

/-- The reference's first result as its operations spell it, -/
abbrev specSum (a b c d1 d2 d3 : FVec Ideal S8192x512 .bf16) (w : FVec Ideal S2048x2048 .bf16) (x : FVec Ideal S8192x2048 .f32) :
    FVec Ideal S8192x2048 .f32 :=
  addf x (Host.dotGeneral dot_S8192x2048_S2048x2048_S8192x2048_1_0_0_1_n_n none (groupsOf a b c d1 d2 d3) (extf .f32 w bitsLt_bf16_f32))

/-- and its second, of the first. -/
abbrev specNorm (y : FVec Ideal S8192x2048 .f32) (g : FVec Ideal S1x2048 .f32) : FVec Ideal S8192x2048 .bf16 :=
  truncf .bf16 (mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 g)) bitsLt_bf16_f32

theorem groupsOf_apply (a b c d1 d2 d3 : FVec Ideal S8192x512 .bf16) (r : Fin 8192) (k : Fin 2048) :
    groupsOf a b c d1 d2 d3 (ix2 r k) = joined (fun q => a (ix2 r q)) (fun q => b (ix2 r q)) (fun q => c (ix2 r q))
      (fun q => d1 (ix2 r q) + d2 (ix2 r q) + d3 (ix2 r q)) k := by
  have hk := k.isLt
  unfold groupsOf
  pointwise
  by_cases h0 : k.val < 512
  · rw [dif_pos h0, joined_first _ _ _ _ (q := ⟨k.val, h0⟩) rfl]
  by_cases h1 : k.val - 512 < 512
  · rw [dif_neg h0, dif_pos h1, joined_second _ _ _ _ (q := ⟨k.val - 512, h1⟩) (by dsimp only; omega)]
  by_cases h2 : k.val - 512 - 512 < 512
  · rw [dif_neg h0, dif_neg h1, dif_pos h2, joined_third _ _ _ _ (q := ⟨k.val - 512 - 512, h2⟩) (by dsimp only; omega)]
  · rw [dif_neg h0, dif_neg h1, dif_neg h2, joined_fourth _ _ _ _ (q := ⟨k.val - 512 - 512 - 512, by omega⟩) (by dsimp only; omega)]

theorem specSum_apply (a b c d1 d2 d3 : FVec Ideal S8192x512 .bf16) (w : FVec Ideal S2048x2048 .bf16) (x : FVec Ideal S8192x2048 .f32)
    (r : Fin 8192) (q : Fin 2048) :
    specSum a b c d1 d2 d3 w x (ix2 r q) = x (ix2 r q) + ∑ k, groupsOf a b c d1 d2 d3 (ix2 r k) * w (ix2 k q) := by
  unfold specSum
  generalize groupsOf a b c d1 d2 d3 = n
  pointwise

theorem specNorm_apply (y : FVec Ideal S8192x2048 .f32) (g : FVec Ideal S1x2048 .f32) (r : Fin 8192) (k : Fin 2048) :
    specNorm y g (ix2 r k) = y (ix2 r k) * scale (fun k => y (ix2 r k)) * g (ix2 0 k) := by
  unfold specNorm
  pointwise

end Cert.OutProjReferenceIdeal.Hand

namespace Cert.OutProjIdeal.Hand

open Cert.OutProjIdeal Cert.OutProjIdeal.Gen
open Idealize.ShloMosaic Idealize.ShloMosaic.TcCoe
open Cert.Norm
open Cert.OutProjReferenceIdeal.Hand (specSum specNorm)

variable (m : (ℓ : Loc nD τ sig) → Buf (Elt Ideal) ℓ) (c : Dev nD)

/-- The reference's first result at this program's arguments. -/
abbrev specAt : FVec Ideal S8192x2048 .f32 :=
  specSum (groupA m c) (groupB m c) (groupC m c) (branch1 m c) (branch2 m c) (branch3 m c) (weights m c) (rows m c)

theorem specAt_apply (r : Fin 8192) (q : Fin 2048) : specAt m c (ix2 r q) = total m c r q :=
  (Cert.OutProjReferenceIdeal.Hand.specSum_apply _ _ _ _ _ _ _ _ r q).trans (congrArg (rows m c (ix2 r q) + ·)
    (Finset.sum_congr rfl fun k _ => congrArg (· * weights m c (ix2 k q)) (Cert.OutProjReferenceIdeal.Hand.groupsOf_apply _ _ _ _ _ _ r k)))

theorem resultSum_eq_spec : resultSum m c = specAt m c := funext fun j =>
  (specAt_apply m c (j 0) (j 1)).symm.trans (congrArg (specAt m c) (idx_ext rfl rfl : ix2 (j 0) (j 1) = j))

theorem resultNorm_eq_spec : resultNorm m c = specNorm (specAt m c) (gains m c) := funext fun j =>
  Eq.symm ((congrArg (specNorm (specAt m c) (gains m c)) (idx_ext rfl rfl : j = ix2 (j 0) (j 1))).trans
    ((Cert.OutProjReferenceIdeal.Hand.specNorm_apply (specAt m c) (gains m c) (j 0) (j 1)).trans
      (congrArg (· * gains m c (ix2 0 (j 1))) (congrArg₂ (· * ·) (specAt_apply m c (j 0) (j 1))
        (congrArg scale (funext fun k => specAt_apply m c (j 0) k))))))

end Cert.OutProjIdeal.Hand

end
-- ==== Proof.Norm.Gate.lean ====
/- The spatial gating of a chunk of rows, over the reals: the pieces both programs are read as. -/
module

public import Idealize.ShloMosaic.Lib.Pointwise
public import Idealize.ShloMosaic.PureOps.Ideal
public import Idealize.ShloMosaic.Lib.WordCmp

@[expose] public section

noncomputable section

namespace Cert.Norm

open Idealize.ShloMosaic

/-- The activation, in the form with the hyperbolic tangent. -/
abbrev gelu (x : EReal) : EReal :=
  x * (Ideal.ofBits .f32 0x3F000000#32
    * (1 + Ideal.tanh (Ideal.ofBits .f32 0x3F4C422A#32 * (x + Ideal.ofBits .f32 0x3D372713#32 * (x * (x * x))))))

/-- The mean of a row of 512. -/
abbrev mean (r : Fin 512 → EReal) : EReal := Ideal.div (∑ k, r k) (Ideal.ofBits .f32 0x44000000#32)

/-- A row of 512 normed to mean zero and variance one, with gain `g` and shift `b`, at column `q`. -/
abbrev normed (r g b : Fin 512 → EReal) (q : Fin 512) : EReal :=
  (r q - mean r) * Ideal.rsqrt (mean (fun k => (r k - mean r) * (r k - mean r)) + Ideal.ofBits .f32 0x358637BD#32) * g q + b q

theorem normed_congr {r r' g g' b b' : Fin 512 → EReal} (hr : ∀ k, r k = r' k) (hg : ∀ k, g k = g' k) (hb : ∀ k, b k = b' k) (q : Fin 512) :
    normed r g b q = normed r' g' b' q := by
  obtain rfl := funext hr
  obtain rfl := funext hg
  obtain rfl := funext hb
  rfl

/-- Weight `s` of row `t`, left out where `s` comes after `t`. -/
abbrev causal (w : Fin 128 → Fin 128 → EReal) (t s : Fin 128) : EReal := if s.val ≤ t.val then w t s else 0

/-- The head of a column, four heads of 128 columns. -/
abbrev headOf (q : Fin 512) : Fin 4 := ⟨q.val / 128, by omega⟩

/-- The place of row `r` in its chunk of 128. -/
abbrev placeOf {n : Nat} (r : Fin n) : Fin 128 := ⟨r.val % 128, by omega⟩

/-- Row `s` of the chunk row `r` is in. -/
abbrev peer {n : Nat} (h : n % 128 = 0) (r : Fin n) (s : Fin 128) : Fin n :=
  ⟨r.val / 128 * 128 + s.val, by have := r.isLt; have := s.isLt; omega⟩

/-- The weight kept is chosen by comparing the two places as 32-bit numbers. -/
theorem causal_select (w : Fin 128 → Fin 128 → EReal) (t s : Fin 128) :
    Scalar.select (IntOp.cmpi .sge (BitVec.ofNat 32 t.val) (BitVec.ofNat 32 s.val)) (w t s) 0 = causal w t s := by
  rw [WordCmp.cmpi_sge_ofNat (lt_trans t.isLt (by norm_num)) (lt_trans s.isLt (by norm_num))]
  unfold causal
  by_cases h : s.val ≤ t.val
  · rw [if_pos h, decide_eq_true h]; rfl
  · rw [if_neg h, decide_eq_false h]; rfl

end Cert.Norm

end
-- ==== Proof.GatingIdeal.Body.lean ====
/- The spatial gating over the reals: what one grid point leaves in its block. -/
module

public import proofs.«01_k».proof.Proof.Norm.Gate
public import proofs.«01_k».proof.Proof.Gen.GatingIdeal.Frame
public import Idealize.ShloMosaic.Lib.Pipeline.Value

@[expose] public section

set_option maxRecDepth 16384

noncomputable section

namespace Cert.GatingIdeal.Hand

open Cert.GatingIdeal Cert.GatingIdeal.Gen
open Idealize.ShloMosaic Idealize.ShloMosaic.TcCoe Idealize.ShloMosaic.Tactic
open Cert.Norm

theorem zeros : (![0, 0] : Fin 2 → Nat) = fun _ => 0 := funext fun a => by fin_cases a <;> rfl

theorem gelu_apply (x : Vec Ideal S512x1024 .f32) (r : Fin 512) (q : Fin 1024) : k0_pay6 x (ix2 r q) = gelu (x (ix2 r q)) := by
  pointwise [k0_pay6]

theorem first_apply (x : Vec Ideal S512x1024 .f32) (r : Fin 512) (q : Fin 512) :
    k0_pay7 x (ix2 r q) = k0_pay6 x (ix2 r ⟨q.val, by omega⟩) := by
  unfold k0_pay7
  generalize k0_pay6 x = y
  pointwise

theorem second_apply (x : Vec Ideal S512x1024 .f32) (g b : Vec Ideal S1x512 .f32) (r : Fin 512) (q : Fin 512) :
    k0_pay8 x g b (ix2 r q) = normed (fun k => k0_pay6 x (ix2 r ⟨512 + k.val, by omega⟩)) (fun k => g (ix2 0 k)) (fun k => b (ix2 0 k)) q := by
  unfold k0_pay8
  generalize k0_pay6 x = y
  pointwise

/-- A head's weights as loaded from the four heads' and masked. -/
abbrev head (n : Nat) (h : ∀ a, (![n, 0, 0] : Fin 3 → Nat) a + S1x128x128.size a ≤ S4x128x128.size a) (w : Vec Ideal S4x128x128 .f32) :
    FVec Ideal S128x128 .bf16 :=
  k0_pay11 k0_pay9 (View.ld w (Rect.unit (s := S4x128x128) ![n, 0, 0] S1x128x128.size h))

theorem head_apply (n : Nat) (h : ∀ a, (![n, 0, 0] : Fin 3 → Nat) a + S1x128x128.size a ≤ S4x128x128.size a) (w : Vec Ideal S4x128x128 .f32)
    (k : Fin 4) (hk : k.val = n) (t s : Fin 128) : head n h w (ix2 t s) = causal (fun t s => w (ix3 k t s)) t s := by
  have e : ∀ t s, View.ld w (Rect.unit (s := S4x128x128) ![n, 0, 0] S1x128x128.size h) (ix3 0 t s) = w (ix3 k t s) := fun t s =>
    congrArg w (funext fun p => Fin.ext (by
      refine (Rect.emb_apply _ _ p).trans ?_
      fin_cases p <;> simp [hk]))
  have k : ∀ v : Vec Ideal S1x128x128 .f32, k0_pay11 k0_pay9 v (ix2 t s) = causal (fun t s => v (ix3 0 t s)) t s := by
    intro v
    refine Eq.trans ?_ (causal_select _ t s)
    pointwise [k0_pay11, k0_pay9]
  exact (k _).trans (congrArg (fun f => causal f t s) (funext fun t => funext fun s => e t s))

/-- What one store leaves: a chunk's rows at a head's columns, from row `a` and column `b`. -/
abbrev slab (a b : Nat) (h : S512x512.Slices ![a, b] S128x128) (h' : S128x512.Slices ![0, b] S128x128)
    (u : FVec Ideal S512x512 .f32) (v : FVec Ideal S512x512 .bf16) (p : FVec Ideal S128x512 .f32) (w : FVec Ideal S128x128 .bf16) :
    FVec Ideal S128x128 .bf16 :=
  truncf .bf16 (mulf (extractStridedSlice S128x128 ![a, b] u h) (addf (matmul dot_S128x128_S128x128_S128x128_1_0_0_1_n_n none w
    (extractStridedSlice S128x128 ![a, b] v h) (constant S128x128 .f32 0x00000000#32)) (extractStridedSlice S128x128 ![0, b] p h'))) bitsLt_bf16_f32

theorem slab_apply (a b : Nat) (h : S512x512.Slices ![a, b] S128x128) (h' : S128x512.Slices ![0, b] S128x128)
    (u : FVec Ideal S512x512 .f32) (v : FVec Ideal S512x512 .bf16) (p : FVec Ideal S128x512 .f32) (w : FVec Ideal S128x128 .bf16)
    (x : S128x128.Idx) : slab a b h h' u v p w x =
      extractStridedSlice S128x128 ![a, b] u h x * (∑ s, w (ix2 (x 0) s) * extractStridedSlice S128x128 ![a, b] v h (ix2 s (x 1))
        + extractStridedSlice S128x128 ![0, b] p h' x) := by
  unfold slab
  generalize extractStridedSlice S128x128 ![a, b] u h = u'
  generalize extractStridedSlice S128x128 ![a, b] v h = v'
  generalize extractStridedSlice S128x128 ![0, b] p h' = p'
  pointwise

/-- The gated block: each row's first half times its chunk's second halves weighted, shifted. -/
def gated (u : FVec Ideal S512x512 .f32) (v : FVec Ideal S512x512 .bf16) (p : FVec Ideal S128x512 .f32) (w : Vec Ideal S4x128x128 .f32) :
    FVec Ideal S512x512 .bf16 := fun y =>
  u y * (∑ s, causal (fun t s => w (ix3 (headOf (y 1)) t s)) (placeOf (y 0)) s * v (ix2 (peer rfl (y 0) s) (y 1))
    + p (ix2 (placeOf (y 0)) (y 1)))

theorem slab_gated {a b : Nat} (n : Nat) (h : S512x512.Slices ![a, b] S128x128) (h' : S128x512.Slices ![0, b] S128x128)
    (hn : ∀ a, (![n, 0, 0] : Fin 3 → Nat) a + S1x128x128.size a ≤ S4x128x128.size a)
    (inb : ∀ p, (![a, b] : Fin 2 → Nat) p + S128x128.size p ≤ S512x512.size p)
    (u : FVec Ideal S512x512 .f32) (v : FVec Ideal S512x512 .bf16) (p : FVec Ideal S128x512 .f32) (w : Vec Ideal S4x128x128 .f32)
    (ha : a % 128 = 0) (hb : b = n * 128) (x : S128x128.Idx) :
    slab a b h h' u v p (head n hn w) x = gated u v p w ((Rect.unit (s := S512x512) ![a, b] S128x128.size inb).emb x) := by
  have x0 : (x 0).val < 128 := (x 0).isLt
  have x1 : (x 1).val < 128 := (x 1).isLt
  generalize hy : (Rect.unit (s := S512x512) ![a, b] S128x128.size inb).emb x = y
  have y0 : (y 0).val = a + (x 0).val := by rw [← hy]; exact (Rect.emb_apply (Rect.unit (s := S512x512) ![a, b] S128x128.size inb) x 0).trans (by simp)
  have y1 : (y 1).val = b + (x 1).val := by rw [← hy]; exact (Rect.emb_apply (Rect.unit (s := S512x512) ![a, b] S128x128.size inb) x 1).trans (by simp)
  have eu : extractStridedSlice S128x128 ![a, b] u h x = u y := congrArg u (funext fun q => match q with
    | 0 => Fin.ext y0.symm
    | 1 => Fin.ext y1.symm)
  have ep : extractStridedSlice S128x128 ![0, b] p h' x = p (ix2 (placeOf (y 0)) (y 1)) := congrArg p (funext fun q => match q with
    | 0 => Fin.ext (show 0 + (x 0).val = (y 0).val % 128 by omega)
    | 1 => Fin.ext y1.symm)
  have ev : ∀ s : Fin 128, extractStridedSlice S128x128 ![a, b] v h (ix2 s (x 1)) = v (ix2 (peer rfl (y 0) s) (y 1)) := fun s =>
    congrArg v (funext fun q => match q with
    | 0 => Fin.ext (show a + s.val = (y 0).val / 128 * 128 + s.val by omega)
    | 1 => Fin.ext y1.symm)
  have et : placeOf (y 0) = x 0 := Fin.ext (show (y 0).val % 128 = (x 0).val by omega)
  have ew : ∀ s, head n hn w (ix2 (x 0) s) = causal (fun t s => w (ix3 (headOf (y 1)) t s)) (placeOf (y 0)) s := fun s =>
    (head_apply n hn w (headOf (y 1)) (show (y 1).val / 128 = n by omega) (x 0) s).trans
      (congrArg (fun t => causal (fun t s => w (ix3 (headOf (y 1)) t s)) t s) et.symm)
  exact (slab_apply a b h h' u v p (head n hn w) x).trans (congrArg₂ (fun a b : EReal => a * b) eu (congrArg₂ (fun a b : EReal => a + b)
    (Finset.sum_congr rfl fun s _ => congrArg₂ (fun a b : EReal => a * b) (ew s) (ev s)) ep))

section

variable (c : Dev nD) (i : grid0.Coords)
  (m1 : Memref sig .tc .vmem S512x1024 .f32) (h1 : m1.IsWhole) (m2 : Memref sig .tc .vmem S1x512 .f32) (h2 : m2.IsWhole)
  (m3 : Memref sig .tc .vmem S1x512 .f32) (h3 : m3.IsWhole) (m4 : Memref sig .tc .vmem S4x128x128 .f32) (h4 : m4.IsWhole)
  (m5 : Memref sig .tc .vmem S128x512 .f32) (h5 : m5.IsWhole) (m6 : Memref sig .tc .vmem S512x512 .bf16) (h6 : m6.IsWhole)
  (x : Vec Ideal S512x1024 .f32) (g b : Vec Ideal S1x512 .f32) (w : Vec Ideal S4x128x128 .f32) (p : Vec Ideal S128x512 .f32)

theorem block_gated : out0_A_5 c i m1 h1 m2 h2 m3 h3 m4 h4 m5 h5 m6 h6 x g b w p
    = gated (k0_pay7 x) (k0_pay8 x g b) (k0_pay10 p) w := by
  unfold out0_A_5
  rw [View.read_writes_eq_canon _ _ _ (cover0_A_5 c i m1 h1 m2 h2 m3 h3 m4 h4 m5 h5 m6 h6 x g b w p)]
  funext y
  refine View.canon_apply_of_pieces _ _ ?_ y (cover0_A_5 c i m1 h1 m2 h2 m3 h3 m4 h4 m5 h5 m6 h6 x g b w p y)
  unfold kernelRun0_A
  dsimp only
  sl_unfold_words
  simp only [View.readAt_eq_ld, h1.read_unread, h2.read_unread, h3.read_unread, h4.read_unread, h5.read_unread,
    View.ld_unit_zero (S := S512x1024) zeros, View.ld_unit_zero (S := S1x512) zeros,
    View.ld_unit_zero (S := S128x512) zeros]
  intro q hq z
  simp only [List.mem_cons, List.not_mem_nil, or_false] at hq
  rcases hq with rfl | rfl | rfl | rfl | rfl | rfl | rfl | rfl | rfl | rfl | rfl | rfl | rfl | rfl | rfl | rfl
  iterate 4 exact slab_gated 3 _ _ _ (by decide) (k0_pay7 x) (k0_pay8 x g b) (k0_pay10 p) w rfl rfl z
  iterate 4 exact slab_gated 2 _ _ _ (by decide) (k0_pay7 x) (k0_pay8 x g b) (k0_pay10 p) w rfl rfl z
  iterate 4 exact slab_gated 1 _ _ _ (by decide) (k0_pay7 x) (k0_pay8 x g b) (k0_pay10 p) w rfl rfl z
  iterate 4 exact slab_gated 0 _ _ _ (by decide) (k0_pay7 x) (k0_pay8 x g b) (k0_pay10 p) w rfl rfl z

end

end Cert.GatingIdeal.Hand

end
-- ==== Proof.GatingIdeal.Value.lean ====
/- The spatial gating over the reals: its result array element by element. -/
module

public import proofs.«01_k».proof.Proof.GatingIdeal.Body
public import proofs.«01_k».proof.Proof.Gen.GatingIdeal.Value
public import Idealize.ShloMosaic.Lib.Pipeline.ValueKit

@[expose] public section

set_option maxRecDepth 16384

noncomputable section

namespace Cert.GatingIdeal.Hand

open Cert.GatingIdeal Cert.GatingIdeal.Gen
open Idealize.ShloMosaic Idealize.ShloMosaic.TcCoe Idealize.ShloMosaic.Tactic
open Idealize.ShloMosaic.Pipeline (Dat Cfg Window)
open Cert.Norm

variable (m : (ℓ : Loc nD τ sig) → Buf (Elt Ideal) ℓ)

/-- The arguments at their types: the projected rows, the norm's gains and shifts, the heads' weights and shifts. -/
abbrev rows (c : Dev nD) : FVec Ideal S8192x4992 .f32 := m ((c : Thread nD τ).loc main_arg0)
abbrev gains (c : Dev nD) : FVec Ideal S1x512 .f32 := m ((c : Thread nD τ).loc main_arg1)
abbrev shifts (c : Dev nD) : FVec Ideal S1x512 .f32 := m ((c : Thread nD τ).loc main_arg2)
abbrev weights (c : Dev nD) : FVec Ideal S4x128x128 .f32 := m ((c : Thread nD τ).loc main_arg3)
abbrev biases (c : Dev nD) : FVec Ideal S4x128 .f32 := m ((c : Thread nD τ).loc main_arg4)

/-! ## The blocks at coordinates -/

theorem index_rows : ∀ t : Fin cfg0.N, (win0_0.index t (0 : Fin 2) = t.val ∧ win0_0.index t (1 : Fin 2) = 0)
    ∧ (win0_5.index t (0 : Fin 2) = t.val ∧ win0_5.index t (1 : Fin 2) = 0) := (by decide +kernel : ∀ t : Fin grid0.N, _)

theorem index_whole : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0) := (by decide +kernel : ∀ t : Fin grid0.N, _)

theorem row_val {a n y u : Nat} (e : a = n) (h : u = n * 512 + y) : a * 512 + 1 * y = u := by omega
theorem col_val {a n y u : Nat} (e : a = 0) (h : u = y) : a * n + 1 * y = u := by rw [e, Nat.zero_mul, Nat.one_mul, Nat.zero_add]; exact h.symm

/-- Two indices of two coordinates are equal when their coordinates are. -/
theorem idx_ext {s0 s1 : Nat} {i u : (⟨2, ![s0, s1]⟩ : Shape).Idx} (h0 : (i 0).val = (u 0).val) (h1 : (i 1).val = (u 1).val) : i = u :=
  funext fun p => match p with
    | 0 => Fin.ext h0
    | 1 => Fin.ext h1

theorem idx_ext3 {s0 s1 s2 : Nat} {i u : (⟨3, ![s0, s1, s2]⟩ : Shape).Idx} (h0 : (i 0).val = (u 0).val) (h1 : (i 1).val = (u 1).val)
    (h2 : (i 2).val = (u 2).val) : i = u :=
  funext fun p => match p with
    | 0 => Fin.ext h0
    | 1 => Fin.ext h1
    | 2 => Fin.ext h2

section

variable (c : Dev nD) (t : Fin cfg0.N)

/-- The rows' block is never cut, so all of it is rows. -/
theorem block0_apply {z : S512x1024.Idx} {u : S8192x4992.Idx} (h0 : (u 0).val = t.val * 512 + (z 0).val) (h1 : (u 1).val = (z 1).val) :
    X0_0 m c t z = rows m c u := by
  unfold X0_0 Pipeline.Window.fill
  rw [dif_pos (moved0_0 t z)]
  exact (View.read_apply _ _).trans ((congrFun (V_main_arg0 m c) _).trans
    (congrArg (rows m c) (idx_ext (row_val (index_rows t).1.1 h0) (col_val (index_rows t).1.2 h1))))

theorem iblk1_apply (z : S1x512.Idx) : iblk m c 1 t z = gains m c z :=
  (View.read_apply _ _).trans ((congrFun (V_main_arg1 m c) _).trans
    (congrArg (gains m c) (idx_ext (col_val (index_whole t).1.1 rfl) (col_val (index_whole t).1.2 rfl))))

theorem iblk2_apply (z : S1x512.Idx) : iblk m c 2 t z = shifts m c z :=
  (View.read_apply _ _).trans ((congrFun (V_main_arg2 m c) _).trans
    (congrArg (shifts m c) (idx_ext (col_val (index_whole t).2.1.1 rfl) (col_val (index_whole t).2.1.2 rfl))))

theorem iblk3_apply (z : S4x128x128.Idx) : iblk m c 3 t z = weights m c z :=
  (View.read_apply _ _).trans ((congrFun (V_main_arg3 m c) _).trans
    (congrArg (weights m c) (idx_ext3 (col_val (index_whole t).2.2.1.1 rfl) (col_val (index_whole t).2.2.1.2.1 rfl)
      (col_val (index_whole t).2.2.1.2.2 rfl))))

/-- The shifts laid out on the host: a row per place, a head's shift at each of its columns. -/
theorem V_bias : (V m c main_v2 : FVec Ideal S128x512 .f32)
    = shapeCast S128x512 (broadcastInDim S128x4x128 ![0, 1] bcast_S128x4_S128x4x128_0_1
        (transpose S128x4 [1, 0] (biases m c) transposes_S4x128_S128x4_1_0)) shapeCasts_S128x4x128_S128x512 := by
  unfold V
  rw [StableHlo.after_cons, StableHlo.after_cons, StableHlo.after_cons, StableHlo.after_nil, StableHlo.reshape_result,
    StableHlo.unary_result, StableHlo.unary_result]
  rfl

theorem bias_apply (b : FVec Ideal S4x128 .f32) (r : Fin 128) (q : Fin 512) :
    shapeCast S128x512 (broadcastInDim S128x4x128 ![0, 1] bcast_S128x4_S128x4x128_0_1
        (transpose S128x4 [1, 0] b transposes_S4x128_S128x4_1_0)) shapeCasts_S128x4x128_S128x512 (ix2 r q) = b (ix2 (headOf q) r) := by
  pointwise

theorem iblk4_apply (r : Fin 128) (q : Fin 512) : iblk m c 4 t (ix2 r q) = biases m c (ix2 (headOf q) r) :=
  (View.read_apply _ _).trans ((congrArg (V m c main_v2 : FVec Ideal S128x512 .f32)
    (idx_ext (col_val (index_whole t).2.2.2.1 rfl) (col_val (index_whole t).2.2.2.2 rfl))).trans
      ((congrFun (V_bias m c) (ix2 r q)).trans (bias_apply (biases m c) r q)))

end

/-! ## The array -/

/-- Row `r`'s first half activated, at column `q`, and its second. -/
abbrev first (c : Dev nD) (r : Fin 8192) (q : Fin 512) : EReal := gelu (rows m c (ix2 r ⟨q.val, by omega⟩))
abbrev second (c : Dev nD) (r : Fin 8192) (q : Fin 512) : EReal := gelu (rows m c (ix2 r ⟨512 + q.val, by omega⟩))

/-- Row `r`'s gate at column `q`: its chunk's second halves normed, weighted by the row's place up to it, and shifted. -/
abbrev gate (c : Dev nD) (r : Fin 8192) (q : Fin 512) : EReal :=
  ∑ s, causal (fun t s => weights m c (ix3 (headOf q) t s)) (placeOf r) s
      * normed (fun k => second m c (peer rfl r s) k) (fun k => gains m c (ix2 0 k)) (fun k => shifts m c (ix2 0 k)) q
    + biases m c (ix2 (headOf q) (placeOf r))

/-- What the gating leaves: each row's first half times its gate. -/
def result (c : Dev nD) : Vec Ideal S8192x512 .bf16 := fun j => first m c (j 0) (j 1) * gate m c (j 0) (j 1)

/-- Row `r` of the rows read at point `t`. -/
abbrev rowOf (t : Fin cfg0.N) (r : Fin 512) : Fin 8192 :=
  ⟨t.val * 512 + r.val, by have := r.isLt; have := lt_of_lt_of_eq t.isLt N_0; omega⟩

theorem active_apply (c : Dev nD) (t : Fin cfg0.N) (r : Fin 512) (q : Fin 1024) :
    k0_pay6 (X0_0 m c t) (ix2 r q) = gelu (rows m c (ix2 (rowOf t r) ⟨q.val, by omega⟩)) :=
  (gelu_apply (X0_0 m c t) r q).trans (congrArg gelu (block0_apply m c t rfl rfl))

theorem norm_apply (c : Dev nD) (t : Fin cfg0.N) (r q : Fin 512) : k0_pay8 (X0_0 m c t) (iblk m c 1 t) (iblk m c 2 t) (ix2 r q)
    = normed (fun k => second m c (rowOf t r) k) (fun k => gains m c (ix2 0 k)) (fun k => shifts m c (ix2 0 k)) q :=
  (second_apply (X0_0 m c t) (iblk m c 1 t) (iblk m c 2 t) r q).trans (normed_congr
    (fun k => active_apply m c t r ⟨512 + k.val, by omega⟩) (fun k => iblk1_apply m c t (ix2 0 k)) (fun k => iblk2_apply m c t (ix2 0 k)) q)

/-- A point's block is its rows of the result. -/
theorem gated_apply (c : Dev nD) (t : Fin cfg0.N) (r q : Fin 512) :
    gated (k0_pay7 (X0_0 m c t)) (k0_pay8 (X0_0 m c t) (iblk m c 1 t) (iblk m c 2 t)) (k0_pay10 (iblk m c 4 t)) (iblk m c 3 t) (ix2 r q)
      = result m c (ix2 (rowOf t r) q) := by
  have ep : placeOf (rowOf t r) = placeOf r := Fin.ext (show (t.val * 512 + r.val) % 128 = r.val % 128 by omega)
  have es : ∀ s, peer rfl (rowOf t r) s = rowOf t (peer rfl r s) := fun s =>
    Fin.ext (show (t.val * 512 + r.val) / 128 * 128 + s.val = t.val * 512 + (r.val / 128 * 128 + s.val) by omega)
  unfold gated
  show _ = first m c (rowOf t r) q * gate m c (rowOf t r) q
  unfold gate
  rw [ep]
  refine congrArg₂ (fun a b : EReal => a * b) ((first_apply (X0_0 m c t) r q).trans (active_apply m c t r ⟨q.val, by omega⟩))
    (congrArg₂ (fun a b : EReal => a + b) (Finset.sum_congr rfl fun s _ => congrArg₂ (fun a b : EReal => a * b) ?_ ?_) ?_)
  · exact congrArg (fun f => causal f (placeOf r) s) (funext fun t' => funext fun s' => iblk3_apply m c t (ix3 (headOf q) t' s'))
  · exact (norm_apply m c t (peer rfl r s) q).trans (congrArg (fun r => normed (fun k => second m c r k) (fun k => gains m c (ix2 0 k))
      (fun k => shifts m c (ix2 0 k)) q) (es s).symm)
  · exact (congrFun (shapeCast_self _ _) _).trans (iblk4_apply m c t (placeOf r) q)

/-- Where the array holds element `y` of the block written at point `t`. -/
abbrev emb5 (t : Fin cfg0.N) (y : S512x512.Idx) : S8192x512.Idx := ((cfg0.win 5).blk t).view.emb y

theorem emb5_eq (t : Fin cfg0.N) (y : S512x512.Idx) : emb5 t y = ix2 (rowOf t (y 0)) (y 1) :=
  idx_ext (row_val (index_rows t).2.1 rfl) (col_val (index_rows t).2.2 rfl)

/-- Every index is that of some point's block. -/
theorem point_of (j : S8192x512.Idx) : ∃ (t : Fin cfg0.N) (y : S512x512.Idx), ix2 (rowOf t (y 0)) (y 1) = j := by
  have h0 : (j 0).val < 8192 := (j 0).isLt
  refine ⟨⟨(j 0).val / 512, lt_of_lt_of_eq (by omega) N_0.symm⟩, ix2 ⟨(j 0).val % 512, by omega⟩ (j 1), idx_ext ?_ rfl⟩
  show (j 0).val / 512 * 512 + (j 0).val % 512 = (j 0).val
  omega

theorem cover5 (j : S8192x512.Idx) : ∃ t : Fin cfg0.N, (cfg0.win 5).flush t = true ∧ j ∈ ((cfg0.win 5).blk t).view.set := by
  obtain ⟨t, y, h⟩ := point_of j
  refine ⟨t, flush0_5 t, ?_⟩
  rw [← h, ← emb5_eq]
  exact View.emb_mem_set _ _

theorem array (c : Dev nD) : (dats m 0 c).arrAt 5 cfg0.N = result m c := by
  refine (dats m 0 c).arrAt_eq_of_emb 5 (result m c) (fun t hf y => ?_) cover5
  blk_simp
  rw [after0_5]
  show outsAt0 m c t y = result m c (emb5 t y)
  rw [emb5_eq]
  unfold outsAt0
  rw [block_gated]
  have e : y = ix2 (y 0) (y 1) := idx_ext rfl rfl
  exact (congrArg _ e).trans (gated_apply m c t (y 0) (y 1))

end Cert.GatingIdeal.Hand

end
-- ==== Proof.GatingIdeal.Equation.lean ====
/- The spatial gating's array is the reference's. -/
module

public import proofs.«01_k».proof.Proof.GatingIdeal.Value
public import proofs.«01_k».proof.Proof.Gen.GatingReferenceIdeal.Run

@[expose] public section

set_option maxRecDepth 16384

noncomputable section

namespace Cert.GatingReferenceIdeal.Hand

open Cert.GatingReferenceIdeal Cert.GatingReferenceIdeal.Facts₀
open Idealize.ShloMosaic Idealize.ShloMosaic.TcCoe
open Cert.Norm

/-- The first 1024 columns activated. -/
abbrev active (x : FVec Ideal S8192x1024 .f32) : FVec Ideal S8192x1024 .f32 :=
  mulf x (mulf (broadcastInDim S8192x1024 ![] bcast_S_S8192x1024 (constant S_ .f32 0x3F000000#32)) (addf (broadcastInDim S8192x1024 ![] bcast_S_S8192x1024 (constant S_ .f32 0x3F800000#32)) (Host.tanh (mulf (broadcastInDim S8192x1024 ![] bcast_S_S8192x1024 (constant S_ .f32 0x3F4C422A#32)) (addf x (mulf (broadcastInDim S8192x1024 ![] bcast_S_S8192x1024 (constant S_ .f32 0x3D372713#32)) (mulf (mulf x x) x)))))))

/-- The mean of each row. -/
abbrev means (v : FVec Ideal S8192x512 .f32) : FVec Ideal S8192x1 .f32 :=
  Host.divf (broadcastInDim S8192x1 ![0] bcast_S8192_S8192x1_0 (Host.reduceAdd v (constant S_ .f32 0x00000000#32) reducesTo_S8192x512_S8192_d1 h_S_)) (broadcastInDim S8192x1 ![] bcast_S_S8192x1 (constant S_ .f32 0x44000000#32))

/-- Each row less its mean. -/
abbrev centred (v : FVec Ideal S8192x512 .f32) : FVec Ideal S8192x512 .f32 :=
  subf v (broadcastInDim S8192x512 ![0, 1] bcast_S8192x1_S8192x512_0_1 (means v))

/-- The rows normed. -/
abbrev norms (v : FVec Ideal S8192x512 .f32) (g b : FVec Ideal S1x512 .f32) : FVec Ideal S8192x512 .f32 :=
  addf (mulf (mulf (centred v) (broadcastInDim S8192x512 ![0, 1] bcast_S8192x1_S8192x512_0_1 (Host.rsqrt (addf (means (mulf (centred v) (centred v))) (broadcastInDim S8192x1 ![] bcast_S_S8192x1 (constant S_ .f32 0x358637BD#32)))))) (broadcastInDim S8192x512 ![0, 1] bcast_S1x512_S8192x512_0_1 g)) (broadcastInDim S8192x512 ![0, 1] bcast_S1x512_S8192x512_0_1 b)

/-- The weights with what comes after left out. -/
abbrev masked (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) w (broadcastInDim S4x128x128 ![] bcast_S_S4x128x128 (id (constant S_ .f32 0x00000000#32)))

/-- The chunks mixed by head. -/
abbrev mixed (n : FVec Ideal S8192x512 .f32) (w : FVec Ideal S4x128x128 .f32) (p : FVec Ideal S4x128 .f32) : FVec Ideal S64x128x4x128 .f32 :=
  addf (transpose S64x128x4x128 [1, 3, 0, 2] (Host.dotGeneral dot_S64x128x4x128_S4x128x128_S4x64x128x128_1_2_03_1_2_0 none (shapeCast S64x128x4x128 n shapeCasts_S8192x512_S64x128x4x128) w) transposes_S4x64x128x128_S64x128x4x128_1_3_0_2) (broadcastInDim S64x128x4x128 ![0, 1, 2, 3] bcast_S1x128x4x1_S64x128x4x128_0_1_2_3 (broadcastInDim S1x128x4x1 ![1, 2] bcast_S128x4_S1x128x4x1_1_2 (transpose S128x4 [1, 0] p transposes_S4x128_S128x4_1_0)))

/-- The reference's result as its operations spell it. -/
abbrev spec (z : FVec Ideal S8192x4992 .f32) (g b : FVec Ideal S1x512 .f32) (w : FVec Ideal S4x128x128 .f32) (p : FVec Ideal S4x128 .f32) :
    FVec Ideal S8192x512 .bf16 :=
  truncf .bf16 (mulf (extractStridedSlice S8192x512 ![0, 0] (active (extractStridedSlice S8192x1024 ![0, 0] z slices_S8192x4992_S8192x1024_0_0)) slices_S8192x1024_S8192x512_0_0)
    (shapeCast S8192x512 (mixed (norms (extractStridedSlice S8192x512 ![0, 512] (active (extractStridedSlice S8192x1024 ![0, 0] z slices_S8192x4992_S8192x1024_0_0)) slices_S8192x1024_S8192x512_0_512) g b) (masked w) p) shapeCasts_S64x128x4x128_S8192x512)) bitsLt_bf16_f32

theorem res_eq (m : (ℓ : Loc nD τ sig) → Buf (Elt Ideal) ℓ) (c : Dev nD) : Cert.GatingReferenceIdeal.Value.res_main_v51 m c
    = spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Cert.GatingReferenceIdeal.Value.res_main_v51
  rfl

theorem active_apply (x : FVec Ideal S8192x1024 .f32) (r : Fin 8192) (q : Fin 1024) : active x (ix2 r q) = gelu (x (ix2 r q)) := by
  unfold active gelu
  rw [mul_comm (x (ix2 r q)) (x (ix2 r q) * x (ix2 r q))]
  pointwise

theorem norms_apply (v : FVec Ideal S8192x512 .f32) (g b : FVec Ideal S1x512 .f32) (r : Fin 8192) (q : Fin 512) :
    norms v g b (ix2 r q) = normed (fun k => v (ix2 r k)) (fun k => g (ix2 0 k)) (fun k => b (ix2 0 k)) q := by
  pointwise

theorem select_bit : ∀ c : BitVec 1, Scalar.select c 1#1 0#1 = c := by decide

theorem masked_apply (w : FVec Ideal S4x128x128 .f32) (h : Fin 4) (t s : Fin 128) :
    masked w (ix3 h t s) = causal (fun t s => w (ix3 h t s)) t s := by
  refine Eq.trans ?_ (causal_select (fun t s => w (ix3 h t s)) t s)
  unfold masked
  rw [id_eq]
  pointwise
  rw [select_bit, show IntOp.addi (BitVec.ofNat 32 t.val) 0#32 = BitVec.ofNat 32 t.val from BitVec.add_zero _]

theorem mixed_apply (n : FVec Ideal S8192x512 .f32) (w : FVec Ideal S4x128x128 .f32) (p : FVec Ideal S4x128 .f32) (r : Fin 8192) (q : Fin 512) :
    shapeCast S8192x512 (mixed n w p) shapeCasts_S64x128x4x128_S8192x512 (ix2 r q)
      = ∑ s, n (ix2 (peer rfl r s) q) * w (ix3 (headOf q) (placeOf r) s) + p (ix2 (headOf q) (placeOf r)) := by
  pointwise

theorem front_apply (z : FVec Ideal S8192x4992 .f32) (r : Fin 8192) (q : Fin 1024) :
    extractStridedSlice S8192x1024 ![0, 0] z slices_S8192x4992_S8192x1024_0_0 (ix2 r q) = z (ix2 r ⟨q.val, by omega⟩) := by
  pointwise

theorem first_apply (a : FVec Ideal S8192x1024 .f32) (r : Fin 8192) (q : Fin 512) :
    extractStridedSlice S8192x512 ![0, 0] a slices_S8192x1024_S8192x512_0_0 (ix2 r q) = a (ix2 r ⟨q.val, by omega⟩) := by
  pointwise

theorem second_apply (a : FVec Ideal S8192x1024 .f32) (r : Fin 8192) (q : Fin 512) :
    extractStridedSlice S8192x512 ![0, 512] a slices_S8192x1024_S8192x512_0_512 (ix2 r q) = a (ix2 r ⟨512 + q.val, by omega⟩) := by
  pointwise

theorem halves_apply (z : FVec Ideal S8192x4992 .f32) (r : Fin 8192) (q : Fin 1024) :
    active (extractStridedSlice S8192x1024 ![0, 0] z slices_S8192x4992_S8192x1024_0_0) (ix2 r q) = gelu (z (ix2 r ⟨q.val, by omega⟩)) :=
  (active_apply _ r q).trans (congrArg gelu (front_apply z r q))

theorem spec_apply (z : FVec Ideal S8192x4992 .f32) (g b : FVec Ideal S1x512 .f32) (w : FVec Ideal S4x128x128 .f32) (p : FVec Ideal S4x128 .f32)
    (r : Fin 8192) (q : Fin 512) :
    spec z g b w p (ix2 r q) = gelu (z (ix2 r ⟨q.val, by omega⟩))
      * (∑ s, causal (fun t s => w (ix3 (headOf q) t s)) (placeOf r) s
          * normed (fun k => gelu (z (ix2 (peer rfl r s) ⟨512 + k.val, by omega⟩))) (fun k => g (ix2 0 k)) (fun k => b (ix2 0 k)) q
        + p (ix2 (headOf q) (placeOf r))) := by
  refine congrArg₂ (fun a b : EReal => a * b) ((first_apply _ r q).trans (halves_apply z r ⟨q.val, by omega⟩))
    ((mixed_apply _ (masked w) p r q).trans (congrArg (fun a : EReal => a + p (ix2 (headOf q) (placeOf r)))
      (Finset.sum_congr rfl fun s _ => (mul_comm _ _).trans (congrArg₂ (fun a b : EReal => a * b) (masked_apply w _ _ s) ?_))))
  exact (norms_apply _ g b (peer rfl r s) q).trans (normed_congr
    (fun k => (second_apply _ (peer rfl r s) k).trans (halves_apply z (peer rfl r s) ⟨512 + k.val, by omega⟩)) (fun _ => rfl) (fun _ => rfl) q)

end Cert.GatingReferenceIdeal.Hand

namespace Cert.GatingIdeal.Hand

open Cert.GatingIdeal Cert.GatingIdeal.Gen
open Idealize.ShloMosaic Idealize.ShloMosaic.TcCoe
open Cert.GatingReferenceIdeal.Hand (spec spec_apply)

variable (m : (ℓ : Loc nD τ sig) → Buf (Elt Ideal) ℓ) (c : Dev nD)

theorem result_eq_spec : result m c = spec (rows m c) (gains m c) (shifts m c) (weights m c) (biases m c) := funext fun j =>
  (spec_apply (rows m c) (gains m c) (shifts m c) (weights m c) (biases m c) (j 0) (j 1)).symm.trans
    (congrArg (spec (rows m c) (gains m c) (shifts m c) (weights m c) (biases m c)) (idx_ext rfl rfl : ix2 (j 0) (j 1) = j))

end Cert.GatingIdeal.Hand

end
-- ==== Proof.CompressIdeal.Body.lean ====
/- The compression of the sparse attention's keys and values over the reals: what one grid point leaves in its block. -/
module

public import proofs.«01_k».proof.Proof.Norm.Gate
public import proofs.«01_k».proof.Proof.Gen.CompressIdeal.Frame
public import Idealize.ShloMosaic.Lib.Pipeline.Value

@[expose] public section

set_option maxRecDepth 16384

noncomputable section

namespace Cert.CompressIdeal.Hand

open Cert.CompressIdeal Cert.CompressIdeal.Gen
open Idealize.ShloMosaic Idealize.ShloMosaic.TcCoe Idealize.ShloMosaic.Tactic
open Cert.Norm

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- The rows of sixteen with the places of one half added, times that half of the weights. -/
abbrev half (x : Vec Ideal S1x1x512x1024 .f32) (p : Vec Ideal S1x1x1024 .f32) (w : Vec Ideal S1x1024x256 .bf16) : FVec Ideal S512x256 .f32 :=
  matmul dot_S512x1024_S1024x256_S512x256_1_0_0_1_n_n none
    (truncf .bf16 (addf (shapeCast S512x1024 x shapeCasts_S1x1x512x1024_S512x1024 : FVec Ideal S512x1024 .f32)
      (broadcastTo S512x1024 (shapeCast S1x1024 p shapeCasts_S1x1x1024_S1x1024) broadcasts_S1x1024_S512x1024)) bitsLt_bf16_f32)
    (shapeCast S1024x256 w shapeCasts_S1x1024x256_S1024x256 : FVec Ideal S1024x256 .bf16) (constant S512x256 .f32 0x00000000#32)

theorem half_apply (x : Vec Ideal S1x1x512x1024 .f32) (p : Vec Ideal S1x1x1024 .f32) (w : Vec Ideal S1x1024x256 .bf16) (r : Fin 512) (q : Fin 256) :
    half x p w (ix2 r q) = ∑ k, (x (ix4 0 0 r k) + p (ix3 0 0 k)) * w (ix3 0 k q) := by
  pointwise

/-- The hidden units activated. -/
abbrev active (s : FVec Ideal S512x256 .f32) : FVec Ideal S512x256 .bf16 :=
  truncf .bf16 (mulf s (mulf (broadcast S512x256 (Scalar.ofBits .f32 0x3F000000#32)) (addf (broadcast S512x256 (Scalar.ofBits .f32 0x3F800000#32))
    (tanh (mulf (broadcast S512x256 (Scalar.ofBits .f32 0x3F4C422A#32)) (addf s (mulf (broadcast S512x256 (Scalar.ofBits .f32 0x3D372713#32))
      (mulf s (mulf s s))))))))) bitsLt_bf16_f32

theorem active_apply (s : FVec Ideal S512x256 .f32) (r : Fin 512) (q : Fin 256) : active s (ix2 r q) = gelu (s (ix2 r q)) := by
  pointwise

/-- The row after `r`, the first after the last. -/
abbrev next (r : Fin 512) : Fin 512 := ⟨(r.val + 1) % 512, by omega⟩

theorem roll_apply (s : FVec Ideal S512x256 .f32) (r : Fin 512) (q : Fin 256) :
    dynamicRotate 0 511#32 none s rotates_S512x256_d0 (ix2 r q) = s (ix2 (next r) q) := by
  pointwise
  exact congrArg (fun n => s (ix2 n q)) (Fin.ext (congrArg (· % 512) (by omega)))

theorem hidden_apply (x : Vec Ideal S1x1x512x1024 .f32) (p p' : Vec Ideal S1x1x1024 .f32) (w w' : Vec Ideal S1x1024x256 .bf16) (r : Fin 512) (q : Fin 256) :
    k0_pay2 x p w p' w' (ix2 r q) = gelu (∑ k, (x (ix4 0 0 r k) + p (ix3 0 0 k)) * w (ix3 0 k q)
      + ∑ k, (x (ix4 0 0 (next r) k) + p' (ix3 0 0 k)) * w' (ix3 0 k q)) :=
  (active_apply (addf (half x p w) (dynamicRotate 0 511#32 none (half x p' w') rotates_S512x256_d0)) r q).trans
    (congrArg gelu (congrArg₂ (fun a b : EReal => a + b) (half_apply x p w r q)
      ((roll_apply (half x p' w') r q).trans (half_apply x p' w' (next r) q))))

theorem last_apply (s : FVec Ideal S512x256 .bf16) (w : Vec Ideal S1x256x128 .bf16) (r : Fin 512) (q : Fin 128) :
    k0_pay1 s w (ix4 0 0 r q) = ∑ h, s (ix2 r h) * w (ix3 0 h q) := by
  pointwise [k0_pay1]

variable (x : Vec Ideal S1x1x512x1024 .f32) (p : Vec Ideal S1x2x1024 .f32) (w : Vec Ideal S1x2048x256 .bf16) (v : Vec Ideal S1x256x128 .bf16)

theorem place_apply (n : Nat) (h : ∀ a, (![0, n, 0] : Fin 3 → Nat) a + S1x1x1024.size a ≤ S1x2x1024.size a) (b : Fin 2) (hb : b.val = n) (k : Fin 1024) :
    View.ld p (Rect.unit (s := S1x2x1024) ![0, n, 0] S1x1x1024.size h) (ix3 0 0 k) = p (ix3 0 b k) :=
  congrArg p (funext fun a => Fin.ext (by
    refine (Rect.emb_apply _ _ a).trans ?_
    fin_cases a <;> simp [hb]))

theorem weight_apply (n : Nat) (h : ∀ a, (![0, n, 0] : Fin 3 → Nat) a + S1x1024x256.size a ≤ S1x2048x256.size a) (k : Fin 1024) (k' : Fin 2048)
    (hk : k'.val = n + k.val) (q : Fin 256) :
    View.ld w (Rect.unit (s := S1x2048x256) ![0, n, 0] S1x1024x256.size h) (ix3 0 k q) = w (ix3 0 k' q) :=
  congrArg w (funext fun a => Fin.ext (by
    refine (Rect.emb_apply _ _ a).trans ?_
    fin_cases a <;> simp [hk]))

/-- What a point leaves: each row of sixteen and the one after it, as one block of 32, through both products. -/
theorem block_apply (r : Fin 512) (q : Fin 128) : out0_4 x p w v (ix4 0 0 r q)
    = ∑ h : Fin 256, gelu (∑ k : Fin 1024, (x (ix4 0 0 r k) + p (ix3 0 0 k)) * w (ix3 0 ⟨k.val, by omega⟩ h)
        + ∑ k : Fin 1024, (x (ix4 0 0 (next r) k) + p (ix3 0 1 k)) * w (ix3 0 ⟨1024 + k.val, by omega⟩ h)) * v (ix3 0 h q) := by
  unfold out0_4
  rw [View.canon_unit_zero zeros4, View.ld_unit_zero (S := S1x1x512x1024) zeros4, View.ld_unit_zero (S := S1x256x128) zeros3]
  refine (last_apply _ v r q).trans (Finset.sum_congr rfl fun h _ => congrArg (fun a : EReal => a * v (ix3 0 h q))
    ((hidden_apply x _ _ _ _ r h).trans (congrArg gelu (congrArg₂ (fun a b : EReal => a + b)
      (Finset.sum_congr rfl fun k _ => congrArg₂ (fun a b : EReal => (x (ix4 0 0 r k) + a) * b) ?_ ?_)
      (Finset.sum_congr rfl fun k _ => congrArg₂ (fun a b : EReal => (x (ix4 0 0 (next r) k) + a) * b) ?_ ?_)))))
  · exact place_apply p 0 _ 0 rfl k
  · exact weight_apply w 0 _ k _ (Nat.zero_add _).symm h
  · exact place_apply p 1 _ 1 rfl k
  · exact weight_apply w 1024 _ k _ rfl h

end Cert.CompressIdeal.Hand

end
-- ==== Proof.CompressIdeal.Host.lean ====
/- The compression of the sparse attention's keys and values over the reals: the arrays that the host lays out for it. -/
module

public import proofs.«01_k».proof.Proof.CompressIdeal.Body
public import Idealize.ShloMosaic.Lib.Pipeline.ValueKit

@[expose] public section

set_option maxRecDepth 16384

noncomputable section

namespace Cert.CompressIdeal.Hand

open Cert.CompressIdeal Cert.CompressIdeal.Gen
open Idealize.ShloMosaic Idealize.ShloMosaic.TcCoe Idealize.ShloMosaic.Tactic

variable (m : (ℓ : Loc nD τ sig) → Buf (Elt Ideal) ℓ)

/-- The arguments at their types: keys, values, the places added, the two products' weights. -/
abbrev keys (c : Dev nD) : FVec Ideal S8192x128 .f32 := m ((c : Thread nD τ).loc main_arg0)
abbrev vals (c : Dev nD) : FVec Ideal S8192x128 .f32 := m ((c : Thread nD τ).loc main_arg1)
abbrev places (c : Dev nD) : FVec Ideal S2x32x64 .f32 := m ((c : Thread nD τ).loc main_arg2)
abbrev inner (c : Dev nD) : FVec Ideal S2x2048x256 .f32 := m ((c : Thread nD τ).loc main_arg3)
abbrev outer (c : Dev nD) : FVec Ideal S2x256x64 .f32 := m ((c : Thread nD τ).loc main_arg4)

/-! ## The arrays laid out on the host -/

/-- Keys and values one above the other, a head's sixteen rows of 64 as one row of 1024. -/
abbrev grouped (k v : FVec Ideal S8192x128 .f32) : FVec Ideal S2x2x512x1024 .f32 :=
  shapeCast S2x2x512x1024 (transpose S2x2x8192x64 [0, 2, 1, 3] (shapeCast S2x8192x2x64
    (concatenate S2x8192x128 0 [⟨S1x8192x128, broadcastInDim S1x8192x128 ![1, 2] bcast_S8192x128_S1x8192x128_1_2 k⟩,
      ⟨S1x8192x128, broadcastInDim S1x8192x128 ![1, 2] bcast_S8192x128_S1x8192x128_1_2 v⟩] concatenates_S1x8192x128_S1x8192x128_S2x8192x128_d0)
    shapeCasts_S2x8192x128_S2x8192x2x64) transposes_S2x8192x2x64_S2x2x8192x64_0_2_1_3) shapeCasts_S2x2x8192x64_S2x2x512x1024

/-- The second product's weights with 64 columns of zeros beside them. -/
abbrev padded (w : FVec Ideal S2x256x64 .f32) : FVec Ideal S2x256x128 .bf16 :=
  truncf .bf16 (pad S2x256x128 ![0, 0, 0] ![0, 0, 64] ![0, 0, 0] w (sitofp .f32 (constantI S_ 32 0#32))
    pads_S2x256x64_S2x256x128_000_000_0640 h_S_ : FVec Ideal S2x256x128 .f32) bitsLt_bf16_f32

theorem V_grouped (c : Dev nD) : (V m c main_v5 : FVec Ideal S2x2x512x1024 .f32) = grouped (keys m c) (vals m c) := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

theorem V_places (c : Dev nD) : (V m c main_v6 : FVec Ideal S2x2x1024 .f32) = shapeCast S2x2x1024 (places m c) shapeCasts_S2x32x64_S2x2x1024 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

theorem V_inner (c : Dev nD) : (V m c main_v9 : FVec Ideal S2x2048x256 .bf16) = truncf .bf16 (inner m c) bitsLt_bf16_f32 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

theorem V_padded (c : Dev nD) : (V m c main_v8 : FVec Ideal S2x256x128 .bf16) = padded (outer m c) := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

end Cert.CompressIdeal.Hand

end
-- ==== Proof.CompressIdeal.Layout.lean ====
/- The compression's arguments at coordinates, as the host lays them out. -/
module

public import proofs.«01_k».proof.Proof.CompressIdeal.Host
public import proofs.«01_k».proof.Proof.Gen.CompressIdeal.Value
public import Idealize.ShloMosaic.Lib.Pipeline.ValueKit

@[expose] public section

set_option maxRecDepth 16384

noncomputable section

namespace Cert.CompressIdeal.Hand

open Cert.CompressIdeal Cert.CompressIdeal.Gen
open Idealize.ShloMosaic Idealize.ShloMosaic.TcCoe Idealize.ShloMosaic.Tactic
open Idealize.ShloMosaic.Pipeline (Dat Cfg Window)
open Cert.Norm

variable (m : (ℓ : Loc nD τ sig) → Buf (Elt Ideal) ℓ)

/-- Row `r`'s column `q` of the keys, at 0, or of the values, at 1. -/
abbrev source (k v : FVec Ideal S8192x128 .f32) (a : Fin 2) (r : Fin 8192) (q : Fin 128) : EReal := if a.val < 1 then k (ix2 r q) else v (ix2 r q)

/-- Keys and values one above the other. -/
abbrev stacked (k v : FVec Ideal S8192x128 .f32) : FVec Ideal S2x8192x128 .f32 :=
  concatenate S2x8192x128 0 [⟨S1x8192x128, broadcastInDim S1x8192x128 ![1, 2] bcast_S8192x128_S1x8192x128_1_2 k⟩,
    ⟨S1x8192x128, broadcastInDim S1x8192x128 ![1, 2] bcast_S8192x128_S1x8192x128_1_2 v⟩] concatenates_S1x8192x128_S1x8192x128_S2x8192x128_d0

theorem stacked_apply (k v : FVec Ideal S8192x128 .f32) (a : Fin 2) (r : Fin 8192) (q : Fin 128) : stacked k v (ix3 a r q) = source k v a r q := by
  pointwise
  exact dite_eq_ite

theorem heads_apply (x : FVec Ideal S2x8192x128 .f32) (a g : Fin 2) (r : Fin 8192) (d : Fin 64) :
    transpose S2x2x8192x64 [0, 2, 1, 3] (shapeCast S2x8192x2x64 x shapeCasts_S2x8192x128_S2x8192x2x64)
        transposes_S2x8192x2x64_S2x2x8192x64_0_2_1_3 (ix4 a g r d) = x (ix3 a r ⟨g.val * 64 + d.val, by omega⟩) := by
  pointwise

theorem sixteen_apply (y : FVec Ideal S2x2x8192x64 .f32) (a g : Fin 2) (n : Fin 512) (i : Fin 1024) :
    shapeCast S2x2x512x1024 y shapeCasts_S2x2x8192x64_S2x2x512x1024 (ix4 a g n i) = y (ix4 a g ⟨n.val * 16 + i.val / 64, by omega⟩ ⟨i.val % 64, by omega⟩) := by
  pointwise

theorem grouped_apply (k v : FVec Ideal S8192x128 .f32) (a g : Fin 2) (n : Fin 512) (i : Fin 1024) :
    grouped k v (ix4 a g n i) = source k v a ⟨n.val * 16 + i.val / 64, by omega⟩ ⟨g.val * 64 + i.val % 64, by omega⟩ := by
  exact (sixteen_apply _ a g n i).trans ((heads_apply _ a g _ _).trans (stacked_apply k v a _ _))

theorem placed_apply (p : FVec Ideal S2x32x64 .f32) (a b : Fin 2) (i : Fin 1024) :
    shapeCast S2x2x1024 p shapeCasts_S2x32x64_S2x2x1024 (ix3 a b i) = p (ix3 a ⟨b.val * 16 + i.val / 64, by omega⟩ ⟨i.val % 64, by omega⟩) := by
  pointwise

/-- The second product's weight of unit `h` and column `q`. -/
abbrev weightOf (w : FVec Ideal S2x256x64 .f32) (a : Fin 2) (h : Fin 256) (q : Fin 128) : EReal := if hq : q.val < 64 then w (ix3 a h ⟨q.val, hq⟩) else 0

theorem padded_apply (w : FVec Ideal S2x256x64 .f32) (a : Fin 2) (h : Fin 256) (q : Fin 128) : padded w (ix3 a h q) = weightOf w a h q := by
  have e : (FloatOps.sitofp .f32 0#32 : Ideal .f32) = (0 : EReal) := by
    show (((0#32 : BitVec 32).toInt : ℝ) : EReal) = 0
    simp
  pointwise
  exact dite_congr rfl (fun _ => rfl) fun _ => e

end Cert.CompressIdeal.Hand

end
-- ==== Proof.CompressIdeal.Value.lean ====
/- The compression of the sparse attention's keys and values over the reals: its result array element by element. -/
module

public import proofs.«01_k».proof.Proof.CompressIdeal.Layout
public import proofs.«01_k».proof.Proof.Gen.CompressIdeal.Value
public import Idealize.ShloMosaic.Lib.Pipeline.ValueKit

@[expose] public section

set_option maxRecDepth 16384

noncomputable section

namespace Cert.CompressIdeal.Hand

open Cert.CompressIdeal Cert.CompressIdeal.Gen
open Idealize.ShloMosaic Idealize.ShloMosaic.TcCoe Idealize.ShloMosaic.Tactic
open Idealize.ShloMosaic.Pipeline (Dat Cfg Window)
open Cert.Norm

variable (m : (ℓ : Loc nD τ sig) → Buf (Elt Ideal) ℓ)

/-! ## The blocks at coordinates -/

theorem index_in : ∀ t : Fin cfg0.N,
    (win0_0.index t (0 : Fin 4) = t.val / 2 ∧ win0_0.index t (1 : Fin 4) = t.val % 2 ∧ win0_0.index t (2 : Fin 4) = 0 ∧ win0_0.index t (3 : Fin 4) = 0)
    ∧ (win0_1.index t (0 : Fin 3) = t.val / 2 ∧ win0_1.index t (1 : Fin 3) = 0 ∧ win0_1.index t (2 : Fin 3) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = 0 ∧ win0_3.index t (2 : Fin 3) = 0) :=
  (by decide +kernel : ∀ t : Fin grid0.N, _)

theorem index_out : ∀ t : Fin cfg0.N,
    win0_4.index t (0 : Fin 4) = t.val / 2 ∧ win0_4.index t (1 : Fin 4) = t.val % 2 ∧ win0_4.index t (2 : Fin 4) = 0 ∧ win0_4.index t (3 : Fin 4) = 0 :=
  (by decide +kernel : ∀ t : Fin grid0.N, _)

theorem one_val {a n : Nat} (e : a = n) : a * 1 + 1 * 0 = n := by omega
theorem all_val {a n y : Nat} (e : a = 0) : a * n + 1 * y = y := by rw [e, Nat.zero_mul, Nat.one_mul, Nat.zero_add]

/-- Two indices of three or four coordinates are equal when their coordinates are. -/
theorem idx_ext3 {s0 s1 s2 : Nat} {i u : (⟨3, ![s0, s1, s2]⟩ : Shape).Idx} (h0 : (i 0).val = (u 0).val) (h1 : (i 1).val = (u 1).val)
    (h2 : (i 2).val = (u 2).val) : i = u :=
  funext fun p => match p with
    | 0 => Fin.ext h0
    | 1 => Fin.ext h1
    | 2 => Fin.ext h2

theorem idx_ext4 {s0 s1 s2 s3 : Nat} {i u : (⟨4, ![s0, s1, s2, s3]⟩ : Shape).Idx} (h0 : (i 0).val = (u 0).val) (h1 : (i 1).val = (u 1).val)
    (h2 : (i 2).val = (u 2).val) (h3 : (i 3).val = (u 3).val) : i = u :=
  funext fun p => match p with
    | 0 => Fin.ext h0
    | 1 => Fin.ext h1
    | 2 => Fin.ext h2
    | 3 => Fin.ext h3

/-- Whether a point compresses keys or values, and of which head. -/
abbrev which (t : Fin cfg0.N) : Fin 2 := ⟨t.val / 2, by have := lt_of_lt_of_eq t.isLt N_0; omega⟩
abbrev head (t : Fin cfg0.N) : Fin 2 := ⟨t.val % 2, by omega⟩

/-- Where the first array holds element `y` of the block read at point `t`. -/
abbrev emb0 (t : Fin cfg0.N) (y : S1x1x512x1024.Idx) : S2x2x512x1024.Idx := ((cfg0.win 0).blk t).view.emb y

theorem emb0_eq (t : Fin cfg0.N) (r : Fin 512) (q : Fin 1024) : emb0 t (ix4 0 0 r q) = ix4 (which t) (head t) r q :=
  idx_ext4 (one_val (index_in t).1.1) (one_val (index_in t).1.2.1) (all_val (index_in t).1.2.2.1) (all_val (index_in t).1.2.2.2)

section

variable (c : Dev nD) (t : Fin cfg0.N)

theorem read0 (f : FVec Ideal S2x2x512x1024 .f32) (r : Fin 512) (i : Fin 1024) :
    (((cfg0.win 0).blk t).view.read (Elt Ideal) f : FVec Ideal S1x1x512x1024 .f32) (ix4 0 0 r i) = f (ix4 (which t) (head t) r i) :=
  (View.read_apply _ _).trans (congrArg f (emb0_eq t r i))

theorem iblk0_block : (iblk m c 0 t : FVec Ideal S1x1x512x1024 .f32) = ((cfg0.win 0).blk t).view.read (Elt Ideal) (grouped (keys m c) (vals m c)) :=
  congrArg (((cfg0.win 0).blk t).view.read (Elt Ideal)) (V_grouped m c)

theorem iblk0_apply (r : Fin 512) (i : Fin 1024) : iblk m c 0 t (ix4 0 0 r i)
    = source (keys m c) (vals m c) (which t) ⟨r.val * 16 + i.val / 64, by omega⟩ ⟨(head t).val * 64 + i.val % 64, by omega⟩ := by
  rw [iblk0_block, read0]
  exact grouped_apply (keys m c) (vals m c) (which t) (head t) r i

theorem iblk1_apply (b : Fin 2) (i : Fin 1024) : iblk m c 1 t (ix3 0 b i)
    = places m c (ix3 (which t) ⟨b.val * 16 + i.val / 64, by omega⟩ ⟨i.val % 64, by omega⟩) :=
  (View.read_apply _ _).trans ((congrArg (V m c main_v6 : FVec Ideal S2x2x1024 .f32) (idx_ext3 (u := ix3 (which t) b i)
    (one_val (index_in t).2.1.1) (all_val (index_in t).2.1.2.1) (all_val (index_in t).2.1.2.2))).trans
      ((congrFun (V_places m c) _).trans (placed_apply (places m c) (which t) b i)))

theorem iblk2_apply (i : Fin 2048) (h : Fin 256) : iblk m c 2 t (ix3 0 i h) = inner m c (ix3 (which t) i h) :=
  (View.read_apply _ _).trans ((congrArg (V m c main_v9 : FVec Ideal S2x2048x256 .bf16) (idx_ext3 (u := ix3 (which t) i h)
    (one_val (index_in t).2.2.1.1) (all_val (index_in t).2.2.1.2.1) (all_val (index_in t).2.2.1.2.2))).trans
      (congrFun (V_inner m c) _))

theorem iblk3_apply (h : Fin 256) (q : Fin 128) : iblk m c 3 t (ix3 0 h q) = weightOf (outer m c) (which t) h q :=
  (View.read_apply _ _).trans ((congrArg (V m c main_v8 : FVec Ideal S2x256x128 .bf16) (idx_ext3 (u := ix3 (which t) h q)
    (one_val (index_in t).2.2.2.1) (all_val (index_in t).2.2.2.2.1) (all_val (index_in t).2.2.2.2.2))).trans
      ((congrFun (V_padded m c) _).trans (padded_apply (outer m c) (which t) h q)))

end

/-! ## The array -/

/-- Sixteen rows of a head from row `16 n`, with half `b`'s places added, against the weights from `o` on. -/
abbrev part (c : Dev nD) (a g : Fin 2) (n : Fin 512) (b : Fin 2) (h : Fin 256) : EReal :=
  ∑ k : Fin 1024, (source (keys m c) (vals m c) a ⟨n.val * 16 + k.val / 64, by omega⟩ ⟨g.val * 64 + k.val % 64, by omega⟩
      + places m c (ix3 a ⟨b.val * 16 + k.val / 64, by omega⟩ ⟨k.val % 64, by omega⟩)) * inner m c (ix3 a ⟨b.val * 1024 + k.val, by omega⟩ h)

/-- What the compression leaves: a head's sixteen rows and the sixteen after them, through both products. -/
def result (c : Dev nD) : Vec Ideal S2x2x512x128 .bf16 := fun j =>
  ∑ h : Fin 256, gelu (part m c (j 0) (j 1) (j 2) 0 h + part m c (j 0) (j 1) (next (j 2)) 1 h) * weightOf (outer m c) (j 0) h (j 3)

theorem left_apply (c : Dev nD) (t : Fin cfg0.N) (r : Fin 512) (q : Fin 128) :
    out0_4 (iblk m c 0 t) (iblk m c 1 t) (iblk m c 2 t) (iblk m c 3 t) (ix4 0 0 r q) = result m c (ix4 (which t) (head t) r q) := by
  refine (block_apply (iblk m c 0 t) (iblk m c 1 t) (iblk m c 2 t) (iblk m c 3 t) r q).trans ?_
  refine Finset.sum_congr rfl fun h _ => congrArg₂ (fun a b : EReal => a * b) (congrArg gelu (congrArg₂ (fun a b : EReal => a + b)
    (Finset.sum_congr rfl fun k _ => ?_) (Finset.sum_congr rfl fun k _ => ?_))) (iblk3_apply m c t h q)
  · exact congrArg₂ (fun a b : EReal => a * b) (congrArg₂ (fun a b : EReal => a + b) (iblk0_apply m c t r k) (iblk1_apply m c t 0 k))
      ((iblk2_apply m c t _ h).trans (congrArg (fun i => inner m c (ix3 (which t) i h)) (Fin.ext (show k.val = 0 * 1024 + k.val by omega))))
  · exact congrArg₂ (fun a b : EReal => a * b) (congrArg₂ (fun a b : EReal => a + b) (iblk0_apply m c t (next r) k) (iblk1_apply m c t 1 k))
      ((iblk2_apply m c t _ h).trans (congrArg (fun i => inner m c (ix3 (which t) i h)) (Fin.ext (show 1024 + k.val = 1 * 1024 + k.val by omega))))

/-- Where the array holds element `y` of the block written at point `t`. -/
abbrev emb4 (t : Fin cfg0.N) (y : S1x1x512x128.Idx) : S2x2x512x128.Idx := ((cfg0.win 4).blk t).view.emb y

theorem emb4_eq (t : Fin cfg0.N) (r : Fin 512) (q : Fin 128) : emb4 t (ix4 0 0 r q) = ix4 (which t) (head t) r q :=
  idx_ext4 (one_val (index_out t).1) (one_val (index_out t).2.1) (all_val (index_out t).2.2.1) (all_val (index_out t).2.2.2)

theorem idx_eq (y : S1x1x512x128.Idx) : y = ix4 0 0 (y 2) (y 3) :=
  idx_ext4 (Nat.lt_one_iff.mp (y 0).isLt) (Nat.lt_one_iff.mp (y 1).isLt) rfl rfl

/-- Every index is that of some point's block. -/
theorem point_of (j : S2x2x512x128.Idx) : ∃ (t : Fin cfg0.N) (r : Fin 512) (q : Fin 128), ix4 (which t) (head t) r q = j := by
  have h0 : (j 0).val < 2 := (j 0).isLt
  have h1 : (j 1).val < 2 := (j 1).isLt
  refine ⟨⟨(j 0).val * 2 + (j 1).val, lt_of_lt_of_eq (by omega) N_0.symm⟩, j 2, j 3, idx_ext4 ?_ ?_ rfl rfl⟩
  · show ((j 0).val * 2 + (j 1).val) / 2 = (j 0).val
    omega
  · show ((j 0).val * 2 + (j 1).val) % 2 = (j 1).val
    omega

theorem cover4 (j : S2x2x512x128.Idx) : ∃ t : Fin cfg0.N, (cfg0.win 4).flush t = true ∧ j ∈ ((cfg0.win 4).blk t).view.set := by
  obtain ⟨t, r, q, h⟩ := point_of j
  refine ⟨t, flush0_4 t, ?_⟩
  rw [← h, ← emb4_eq]
  exact View.emb_mem_set _ _

theorem array (c : Dev nD) : (dats m 0 c).arrAt 4 cfg0.N = result m c := by
  refine (dats m 0 c).arrAt_eq_of_emb 4 (result m c) (fun t hf y => ?_) cover4
  blk_simp
  rw [after0_4]
  show out0_4 (iblk m c 0 t) (iblk m c 1 t) (iblk m c 2 t) (iblk m c 3 t) y = result m c (emb4 t y)
  obtain ⟨r, q, rfl⟩ : ∃ r q, y = ix4 0 0 r q := ⟨y 2, y 3, idx_eq y⟩
  rw [emb4_eq]
  exact left_apply m c t r q

end Cert.CompressIdeal.Hand

end
-- ==== Proof.CompressIdeal.Reference.lean ====
/- The compression's reference element by element. -/
module

public import proofs.«01_k».proof.Proof.Norm.Gate
public import proofs.«01_k».proof.Proof.Gen.CompressReferenceIdeal.Run
public import Idealize.ShloMosaic.Lib.WordCmp

@[expose] public section

set_option maxRecDepth 16384

noncomputable section

namespace Cert.CompressReferenceIdeal.Hand

open Cert.CompressReferenceIdeal Cert.CompressReferenceIdeal.Facts₀
open Idealize.ShloMosaic Idealize.ShloMosaic.TcCoe
open Cert.Norm

/-- Where each block's rows lie: 16 rows on from one block to the next. -/
abbrev at32 : IVec S511x32 32 :=
  addi (broadcastInDim S511x32 ![0, 1] bcast_S511x1_S511x32_0_1 (muli (broadcastInDim S511x1 ![0] bcast_S511_S511x1_0 (iotaInDim S511 32 0)) (broadcastInDim S511x1 ![] bcast_S_S511x1 (constantI S_ 32 16#32)))) (broadcastInDim S511x32 ![0, 1] bcast_S1x32_S511x32_0_1 (broadcastInDim S1x32 ![1] bcast_S32_S1x32_1 (iotaInDim S32 32 0)))

/-- The same, counted from the end where negative, as the gather takes it. -/
abbrev starts : IVec S511x32x1 32 :=
  broadcastInDim S511x32x1 ![0, 1] bcast_S511x32_S511x32x1_0_1 (select (cmpi .slt at32 (broadcastInDim S511x32 ![] bcast_S_S511x32 (constantI S_ 32 0#32))) (addi at32 (broadcastInDim S511x32 ![] bcast_S_S511x32 (constantI S_ 32 8192#32))) at32)

/-- The heads apart. -/
abbrev heads (x : FVec Ideal S8192x128 .f32) : FVec Ideal S2x8192x64 .f32 :=
  transpose S2x8192x64 [1, 0, 2] (shapeCast S8192x2x64 x shapeCasts_S8192x128_S8192x2x64) transposes_S8192x2x64_S2x8192x64_1_0_2

abbrev picked (x : FVec Ideal S2x8192x64 .f32) (i : IVec S511x32x1 32) : FVec Ideal S2x511x32x64 .f32 :=
  Host.gather gather_S2x8192x64_S511x32x1_S2x511x32x64_03_1_n_n_1_2_2164 x i

/-- The blocks with their places added, a block a row. -/
abbrev blocks (b : FVec Ideal S2x511x32x64 .f32) (p : FVec Ideal S32x64 .f32) : FVec Ideal S2x511x2048 .f32 :=
  shapeCast S2x511x2048 (addf b (broadcastInDim S2x511x32x64 ![0, 1, 2, 3] bcast_S1x1x32x64_S2x511x32x64_0_1_2_3 (broadcastInDim S1x1x32x64 ![2, 3] bcast_S32x64_S1x1x32x64_2_3 p))) shapeCasts_S2x511x32x64_S2x511x2048

abbrev product (b : FVec Ideal S2x511x2048 .f32) (w : FVec Ideal S2048x256 .f32) : FVec Ideal S2x511x256 .f32 :=
  Host.dotGeneral dot_S2x511x2048_S2048x256_S2x511x256_2_0_01_1_n_n none b w

abbrev active (x : FVec Ideal S2x511x256 .f32) : FVec Ideal S2x511x256 .f32 :=
  mulf x (mulf (broadcastInDim S2x511x256 ![] bcast_S_S2x511x256 (constant S_ .f32 0x3F000000#32)) (addf (broadcastInDim S2x511x256 ![] bcast_S_S2x511x256 (constant S_ .f32 0x3F800000#32)) (Host.tanh (mulf (broadcastInDim S2x511x256 ![] bcast_S_S2x511x256 (constant S_ .f32 0x3F4C422A#32)) (addf x (mulf (broadcastInDim S2x511x256 ![] bcast_S_S2x511x256 (constant S_ .f32 0x3D372713#32)) (mulf (mulf x x) x)))))))

/-- One of the two: blocks through both products. -/
abbrev branch (x : FVec Ideal S8192x128 .f32) (p : FVec Ideal S32x64 .f32) (w : FVec Ideal S2048x256 .f32) (v : FVec Ideal S256x64 .f32) :
    FVec Ideal S2x511x64 .f32 :=
  Host.dotGeneral dot_S2x511x256_S256x64_S2x511x64_2_0_01_1_n_n none (active (product (blocks (picked (heads x) starts) p) w)) v

/-- Keys' and values' one above the other, with zeros beside them. -/
abbrev joined (a b : FVec Ideal S2x511x64 .f32) : FVec Ideal S2x2x512x128 .bf16 :=
  truncf .bf16 (pad S2x2x512x128 ![0, 0, 0, 0] ![0, 0, 1, 64] ![0, 0, 0, 0] (concatenate S2x2x511x64 0 [⟨S1x2x511x64, broadcastInDim S1x2x511x64 ![1, 2, 3] bcast_S2x511x64_S1x2x511x64_1_2_3 a⟩, ⟨S1x2x511x64, broadcastInDim S1x2x511x64 ![1, 2, 3] bcast_S2x511x64_S1x2x511x64_1_2_3 b⟩] concatenates_S1x2x511x64_S1x2x511x64_S2x2x511x64_d0 : FVec Ideal S2x2x511x64 .f32) (sitofp .f32 (constantI S_ 32 0#32)) pads_S2x2x511x64_S2x2x512x128_000_000_010_0640 h_S_ : FVec Ideal S2x2x512x128 .f32) bitsLt_bf16_f32

/-- The reference's result as its operations spell it. -/
abbrev spec (k v : FVec Ideal S8192x128 .f32) (p : FVec Ideal S2x32x64 .f32) (w : FVec Ideal S2x2048x256 .f32) (u : FVec Ideal S2x256x64 .f32) :
    FVec Ideal S2x2x512x128 .bf16 :=
  joined
    (branch k (shapeCast S32x64 (extractStridedSlice S1x32x64 ![0, 0, 0] p slices_S2x32x64_S1x32x64_0_0_0) shapeCasts_S1x32x64_S32x64)
      (shapeCast S2048x256 (extractStridedSlice S1x2048x256 ![0, 0, 0] w slices_S2x2048x256_S1x2048x256_0_0_0) shapeCasts_S1x2048x256_S2048x256)
      (shapeCast S256x64 (extractStridedSlice S1x256x64 ![0, 0, 0] u slices_S2x256x64_S1x256x64_0_0_0) shapeCasts_S1x256x64_S256x64))
    (branch v (shapeCast S32x64 (extractStridedSlice S1x32x64 ![1, 0, 0] p slices_S2x32x64_S1x32x64_1_0_0) shapeCasts_S1x32x64_S32x64)
      (shapeCast S2048x256 (extractStridedSlice S1x2048x256 ![1, 0, 0] w slices_S2x2048x256_S1x2048x256_1_0_0) shapeCasts_S1x2048x256_S2048x256)
      (shapeCast S256x64 (extractStridedSlice S1x256x64 ![1, 0, 0] u slices_S2x256x64_S1x256x64_1_0_0) shapeCasts_S1x256x64_S256x64))

theorem res_eq (m : (ℓ : Loc nD τ sig) → Buf (Elt Ideal) ℓ) (c : Dev nD) : Cert.CompressReferenceIdeal.Value.res_main_v81 m c
    = spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Cert.CompressReferenceIdeal.Value.res_main_v81
  rfl

/-! ## Which rows are picked -/

/-- Row `j` of block `n`, as a word, is `16 n + j`, not negative and within the rows. -/
theorem word_eq (n : Fin 511) (j : Fin 32) :
    IntOp.addi (IntOp.muli (BitVec.ofNat 32 n.val) 16#32) (BitVec.ofNat 32 j.val) = BitVec.ofNat 32 (n.val * 16 + j.val) := by
  show BitVec.ofNat 32 n.val * 16#32 + BitVec.ofNat 32 j.val = _
  refine BitVec.eq_of_toNat_eq ?_
  simp only [BitVec.toNat_add, BitVec.toNat_mul, BitVec.toNat_ofNat]
  omega

theorem word_toInt (n : Nat) (h : n < 8192) : (BitVec.ofNat 32 n).toInt = n := by
  rw [BitVec.toInt_eq_toNat_cond, BitVec.toNat_ofNat, Nat.mod_eq_of_lt (by omega), if_pos (by omega)]

theorem word_nonneg (n : Nat) (h : n < 8192) : IntOp.cmpi .slt (BitVec.ofNat 32 n) 0#32 = 0#1 := by
  rw [WordCmp.cmpi_slt_eq, word_toInt n h, show (0#32 : BitVec 32).toInt = 0 from rfl, decide_eq_false (by omega)]
  rfl

theorem starts_apply (n : Fin 511) (j : Fin 32) : starts (ix3 n j 0) = BitVec.ofNat 32 (n.val * 16 + j.val) := by
  have h : starts (ix3 n j 0) = Scalar.select (IntOp.cmpi .slt (IntOp.addi (IntOp.muli (BitVec.ofNat 32 n.val) 16#32) (BitVec.ofNat 32 j.val)) 0#32)
      (IntOp.addi (IntOp.addi (IntOp.muli (BitVec.ofNat 32 n.val) 16#32) (BitVec.ofNat 32 j.val)) 8192#32)
      (IntOp.addi (IntOp.muli (BitVec.ofNat 32 n.val) 16#32) (BitVec.ofNat 32 j.val)) := by
    pointwise
  rw [h, word_eq, word_nonneg _ (by omega)]
  rfl

/-- A gathered element is the head's row at its start, kept within the rows. -/
theorem picked_at (x : FVec Ideal S2x8192x64 .f32) (i : IVec S511x32x1 32) (g : Fin 2) (n : Fin 511) (j : Fin 32) (q : Fin 64) :
    picked x i (ix4 g n j q) = x (ix3 g ⟨min (i (ix3 n j 0)).toInt.toNat 8191, by omega⟩ q) := by
  unfold picked Host.gather
  congr 1
  funext a
  refine Fin.ext ?_
  show GatherDims.start _ (ix4 g n j q) i a + GatherDims.batchCoord _ (ix4 g n j q) a + GatherDims.offCoord _ (ix4 g n j q) a = _
  rw [GatherDims.batchCoord_eq_zero _ _ _ List.not_mem_nil]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_neg (show (0 : Fin 3) ∉ gather_S2x8192x64_S511x32x1_S2x511x32x64_03_1_n_n_1_2_2164.startIndexMap from
      (by decide : (0 : Fin 3) ∉ ([1] : List (Fin 3)))), dif_pos ((GatherDims.mem_sKept _ _).mpr
      ⟨show ¬ (0 : Fin 3) ∈ ([1] : List (Fin 3)) by decide, List.not_mem_nil⟩)]
    exact (Nat.zero_add _).trans rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S2x8192x64_S511x32x1_S2x511x32x64_03_1_n_n_1_2_2164.startIndexMap from List.mem_singleton.mpr rfl)]
    refine congrArg (fun k => min (i k).toInt.toNat 8191) (funext fun b => Fin.ext ?_)
    match b with
    | ⟨0, _⟩ => rfl
    | ⟨1, _⟩ => rfl
    | ⟨2, _⟩ => rfl
  · unfold GatherDims.start GatherDims.offCoord
    rw [dif_neg (show (2 : Fin 3) ∉ gather_S2x8192x64_S511x32x1_S2x511x32x64_03_1_n_n_1_2_2164.startIndexMap from
      (by decide : (2 : Fin 3) ∉ ([1] : List (Fin 3)))), dif_pos ((GatherDims.mem_sKept _ _).mpr
      ⟨show ¬ (2 : Fin 3) ∈ ([1] : List (Fin 3)) by decide, List.not_mem_nil⟩)]
    exact (Nat.zero_add _).trans rfl

theorem heads_apply (x : FVec Ideal S8192x128 .f32) (g : Fin 2) (r : Fin 8192) (q : Fin 64) :
    heads x (ix3 g r q) = x (ix2 r ⟨g.val * 64 + q.val, by omega⟩) := by
  pointwise

theorem picked_apply (x : FVec Ideal S8192x128 .f32) (g : Fin 2) (n : Fin 511) (j : Fin 32) (q : Fin 64) :
    picked (heads x) starts (ix4 g n j q) = x (ix2 ⟨n.val * 16 + j.val, by omega⟩ ⟨g.val * 64 + q.val, by omega⟩) := by
  refine (picked_at _ _ g n j q).trans ((heads_apply x g _ q).trans (congrArg (fun r => x (ix2 r ⟨g.val * 64 + q.val, by omega⟩)) (Fin.ext ?_)))
  show min (starts (ix3 n j 0)).toInt.toNat 8191 = n.val * 16 + j.val
  rw [starts_apply, word_toInt _ (by omega)]
  omega

/-! ## The products -/

theorem blocks_apply (b : FVec Ideal S2x511x32x64 .f32) (p : FVec Ideal S32x64 .f32) (g : Fin 2) (n : Fin 511) (i : Fin 2048) :
    blocks b p (ix3 g n i) = b (ix4 g n ⟨i.val / 64, by omega⟩ ⟨i.val % 64, by omega⟩) + p (ix2 ⟨i.val / 64, by omega⟩ ⟨i.val % 64, by omega⟩) := by
  pointwise

theorem product_apply (b : FVec Ideal S2x511x2048 .f32) (w : FVec Ideal S2048x256 .f32) (g : Fin 2) (n : Fin 511) (h : Fin 256) :
    product b w (ix3 g n h) = ∑ i, b (ix3 g n i) * w (ix2 i h) := by
  pointwise

theorem active_apply (x : FVec Ideal S2x511x256 .f32) (g : Fin 2) (n : Fin 511) (h : Fin 256) : active x (ix3 g n h) = gelu (x (ix3 g n h)) := by
  unfold active gelu
  rw [mul_comm (x (ix3 g n h)) (x (ix3 g n h) * x (ix3 g n h))]
  pointwise

theorem last_apply (a : FVec Ideal S2x511x256 .f32) (v : FVec Ideal S256x64 .f32) (g : Fin 2) (n : Fin 511) (q : Fin 64) :
    Host.dotGeneral dot_S2x511x256_S256x64_S2x511x64_2_0_01_1_n_n none a v (ix3 g n q) = ∑ h, a (ix3 g n h) * v (ix2 h q) := by
  pointwise

/-- A block's hidden unit before it is activated. -/
abbrev unit (x : FVec Ideal S8192x128 .f32) (p : FVec Ideal S32x64 .f32) (w : FVec Ideal S2048x256 .f32) (g : Fin 2) (n : Fin 511) (h : Fin 256) : EReal :=
  ∑ i : Fin 2048, (x (ix2 ⟨n.val * 16 + i.val / 64, by omega⟩ ⟨g.val * 64 + i.val % 64, by omega⟩)
    + p (ix2 ⟨i.val / 64, by omega⟩ ⟨i.val % 64, by omega⟩)) * w (ix2 i h)

theorem branch_apply (x : FVec Ideal S8192x128 .f32) (p : FVec Ideal S32x64 .f32) (w : FVec Ideal S2048x256 .f32) (v : FVec Ideal S256x64 .f32)
    (g : Fin 2) (n : Fin 511) (q : Fin 64) : branch x p w v (ix3 g n q) = ∑ h, gelu (unit x p w g n h) * v (ix2 h q) :=
  (last_apply _ v g n q).trans (Finset.sum_congr rfl fun h _ => congrArg (fun a : EReal => a * v (ix2 h q))
    ((active_apply _ g n h).trans (congrArg gelu ((product_apply _ w g n h).trans (Finset.sum_congr rfl fun i _ =>
      congrArg (fun a : EReal => a * w (ix2 i h)) ((blocks_apply _ p g n i).trans
        (congrArg (fun a : EReal => a + p (ix2 ⟨i.val / 64, by omega⟩ ⟨i.val % 64, by omega⟩))
          (picked_apply x g n ⟨i.val / 64, by omega⟩ ⟨i.val % 64, by omega⟩))))))))

theorem joined_apply (a b : FVec Ideal S2x511x64 .f32) (e g : Fin 2) (n : Fin 511) (q : Fin 128) :
    joined a b (ix4 e g ⟨n.val, by omega⟩ q)
      = if hq : q.val < 64 then (if _he : e.val < 1 then a (ix3 g n ⟨q.val, hq⟩) else b (ix3 g n ⟨q.val, hq⟩)) else 0 := by
  have z : (FloatOps.sitofp .f32 0#32 : Ideal .f32) = (0 : EReal) := by
    show (((0#32 : BitVec 32).toInt : ℝ) : EReal) = 0
    simp
  pointwise
  exact dite_congr rfl (fun _ => rfl) fun _ => z

theorem place_apply (p : FVec Ideal S2x32x64 .f32) (j : Fin 32) (q : Fin 64) :
    shapeCast S32x64 (extractStridedSlice S1x32x64 ![0, 0, 0] p slices_S2x32x64_S1x32x64_0_0_0) shapeCasts_S1x32x64_S32x64 (ix2 j q) = p (ix3 0 j q)
    ∧ shapeCast S32x64 (extractStridedSlice S1x32x64 ![1, 0, 0] p slices_S2x32x64_S1x32x64_1_0_0) shapeCasts_S1x32x64_S32x64 (ix2 j q) = p (ix3 1 j q) := by
  constructor <;> pointwise

theorem inner_apply (w : FVec Ideal S2x2048x256 .f32) (i : Fin 2048) (h : Fin 256) :
    shapeCast S2048x256 (extractStridedSlice S1x2048x256 ![0, 0, 0] w slices_S2x2048x256_S1x2048x256_0_0_0) shapeCasts_S1x2048x256_S2048x256 (ix2 i h) = w (ix3 0 i h)
    ∧ shapeCast S2048x256 (extractStridedSlice S1x2048x256 ![1, 0, 0] w slices_S2x2048x256_S1x2048x256_1_0_0) shapeCasts_S1x2048x256_S2048x256 (ix2 i h) = w (ix3 1 i h) := by
  constructor <;> pointwise

theorem outer_apply (u : FVec Ideal S2x256x64 .f32) (h : Fin 256) (q : Fin 64) :
    shapeCast S256x64 (extractStridedSlice S1x256x64 ![0, 0, 0] u slices_S2x256x64_S1x256x64_0_0_0) shapeCasts_S1x256x64_S256x64 (ix2 h q) = u (ix3 0 h q)
    ∧ shapeCast S256x64 (extractStridedSlice S1x256x64 ![1, 0, 0] u slices_S2x256x64_S1x256x64_1_0_0) shapeCasts_S1x256x64_S256x64 (ix2 h q) = u (ix3 1 h q) := by
  constructor <;> pointwise

/-- The result of a block: keys' or values', zero from column 64 on. -/
abbrev outcome (x : FVec Ideal S8192x128 .f32) (p : FVec Ideal S2x32x64 .f32) (w : FVec Ideal S2x2048x256 .f32) (u : FVec Ideal S2x256x64 .f32)
    (e g : Fin 2) (n : Fin 511) (q : Fin 64) : EReal :=
  ∑ h : Fin 256, gelu (∑ i : Fin 2048, (x (ix2 ⟨n.val * 16 + i.val / 64, by omega⟩ ⟨g.val * 64 + i.val % 64, by omega⟩)
    + p (ix3 e ⟨i.val / 64, by omega⟩ ⟨i.val % 64, by omega⟩)) * w (ix3 e i h)) * u (ix3 e h q)

theorem outcome_of {x : FVec Ideal S8192x128 .f32} {p : FVec Ideal S32x64 .f32} {w : FVec Ideal S2048x256 .f32} {v : FVec Ideal S256x64 .f32}
    {p' : FVec Ideal S2x32x64 .f32} {w' : FVec Ideal S2x2048x256 .f32} {v' : FVec Ideal S2x256x64 .f32} (e : Fin 2)
    (hp : ∀ j q, p (ix2 j q) = p' (ix3 e j q)) (hw : ∀ i h, w (ix2 i h) = w' (ix3 e i h)) (hv : ∀ h q, v (ix2 h q) = v' (ix3 e h q))
    (g : Fin 2) (n : Fin 511) (q : Fin 64) : branch x p w v (ix3 g n q) = outcome x p' w' v' e g n q :=
  (branch_apply x p w v g n q).trans (Finset.sum_congr rfl fun h _ => congrArg₂ (fun a b : EReal => a * b)
    (congrArg gelu (Finset.sum_congr rfl fun i _ => congrArg₂ (fun a b : EReal => a * b)
      (congrArg (fun a : EReal => x (ix2 ⟨n.val * 16 + i.val / 64, by omega⟩ ⟨g.val * 64 + i.val % 64, by omega⟩) + a) (hp _ _)) (hw i h))) (hv h q))

theorem spec_apply (k v : FVec Ideal S8192x128 .f32) (p : FVec Ideal S2x32x64 .f32) (w : FVec Ideal S2x2048x256 .f32) (u : FVec Ideal S2x256x64 .f32)
    (e g : Fin 2) (n : Fin 511) (q : Fin 128) : spec k v p w u (ix4 e g ⟨n.val, by omega⟩ q)
      = if hq : q.val < 64 then (if e.val < 1 then outcome k p w u 0 g n ⟨q.val, hq⟩ else outcome v p w u 1 g n ⟨q.val, hq⟩) else 0 := by
  refine (joined_apply _ _ e g n q).trans (dite_congr rfl (fun hq => (dite_congr rfl (fun _ => ?_) fun _ => ?_).trans dite_eq_ite) fun _ => rfl)
  · exact outcome_of 0 (fun j q => (place_apply p j q).1) (fun i h => (inner_apply w i h).1) (fun h q => (outer_apply u h q).1) g n _
  · exact outcome_of 1 (fun j q => (place_apply p j q).2) (fun i h => (inner_apply w i h).2) (fun h q => (outer_apply u h q).2) g n _

end Cert.CompressReferenceIdeal.Hand

end
-- ==== Proof.CompressIdeal.Equation.lean ====
/- The compression's array is the reference's where the reference has a block. -/
module

public import proofs.«01_k».proof.Proof.CompressIdeal.Value
public import proofs.«01_k».proof.Proof.CompressIdeal.Reference
public import proofs.«01_k».proof.Proof.Gen.On_compressed_rows

@[expose] public section

set_option maxRecDepth 16384

noncomputable section

namespace Cert.CompressIdeal.Hand

open Cert.CompressIdeal Cert.CompressIdeal.Gen
open Idealize.ShloMosaic Idealize.ShloMosaic.TcCoe
open Cert.CompressReferenceIdeal.Hand (spec spec_apply outcome)
open Cert.Norm

variable (m : (ℓ : Loc nD τ sig) → Buf (Elt Ideal) ℓ) (c : Dev nD)

theorem sum_halves (f : Fin 2048 → EReal) :
    ∑ i, f i = (∑ k : Fin 1024, f ⟨k.val, by omega⟩) + ∑ k : Fin 1024, f ⟨1024 + k.val, by omega⟩ :=
  Fin.sum_univ_add (a := 1024) (b := 1024) f

/-- The two halves are the whole: the row after row `n` starts at its block's seventeenth. -/
theorem parts_eq (x : FVec Ideal S8192x128 .f32) (e g : Fin 2) (n : Fin 511) (h : Fin 256)
    (hx : ∀ r q, source (keys m c) (vals m c) e r q = x (ix2 r q)) :
    part m c e g ⟨n.val, by omega⟩ 0 h + part m c e g (next ⟨n.val, by omega⟩) 1 h
      = ∑ i : Fin 2048, (x (ix2 ⟨n.val * 16 + i.val / 64, by omega⟩ ⟨g.val * 64 + i.val % 64, by omega⟩)
          + places m c (ix3 e ⟨i.val / 64, by omega⟩ ⟨i.val % 64, by omega⟩)) * inner m c (ix3 e i h) := by
  refine Eq.trans ?_ (sum_halves _).symm
  unfold part
  refine congrArg₂ (fun a b : EReal => a + b) (Finset.sum_congr rfl fun k _ => ?_) (Finset.sum_congr rfl fun k _ => ?_)
  · rw [hx]
    refine congrArg₂ (fun a b : EReal => a * b) (congrArg₂ (fun a b : EReal => a + b) rfl ?_) ?_
    · exact congrArg (fun j => places m c (ix3 e j ⟨k.val % 64, by omega⟩)) (Fin.ext (show 0 * 16 + k.val / 64 = k.val / 64 by omega))
    · exact congrArg (fun i => inner m c (ix3 e i h)) (Fin.ext (show 0 * 1024 + k.val = k.val by omega))
  · rw [hx]
    have hn := n.isLt
    refine congrArg₂ (fun a b : EReal => a * b) (congrArg₂ (fun a b : EReal => a + b) ?_ ?_) ?_
    · exact congrArg₂ (fun r q => x (ix2 r q)) (Fin.ext (show (n.val + 1) % 512 * 16 + k.val / 64 = n.val * 16 + (1024 + k.val) / 64 by omega))
        (Fin.ext (show g.val * 64 + k.val % 64 = g.val * 64 + (1024 + k.val) % 64 by omega))
    · exact congrArg₂ (fun j i => places m c (ix3 e j i)) (Fin.ext (show 1 * 16 + k.val / 64 = (1024 + k.val) / 64 by omega))
        (Fin.ext (show k.val % 64 = (1024 + k.val) % 64 by omega))
    · exact congrArg (fun i => inner m c (ix3 e i h)) (Fin.ext (show 1 * 1024 + k.val = 1024 + k.val by omega))

theorem result_apply (x : FVec Ideal S8192x128 .f32) (e g : Fin 2) (n : Fin 511) (q : Fin 128)
    (hx : ∀ r q, source (keys m c) (vals m c) e r q = x (ix2 r q)) :
    result m c (ix4 e g ⟨n.val, by omega⟩ q)
      = if hq : q.val < 64 then outcome x (places m c) (inner m c) (outer m c) e g n ⟨q.val, hq⟩ else 0 := by
  show (∑ h : Fin 256, gelu (part m c e g ⟨n.val, by omega⟩ 0 h + part m c e g (next ⟨n.val, by omega⟩) 1 h) * weightOf (outer m c) e h q : EReal) = _
  by_cases hq : q.val < 64
  · rw [dif_pos hq]
    refine Finset.sum_congr rfl fun h _ => congrArg₂ (fun a b : EReal => a * b) (congrArg gelu (parts_eq m c x e g n h hx)) ?_
    unfold weightOf
    exact dif_pos hq
  · rw [dif_neg hq]
    refine Finset.sum_eq_zero fun h _ => ?_
    unfold weightOf
    rw [dif_neg hq, mul_zero]

theorem result_eq_spec (e g : Fin 2) (n : Fin 511) (q : Fin 128) : result m c (ix4 e g ⟨n.val, by omega⟩ q)
    = spec (keys m c) (vals m c) (places m c) (inner m c) (outer m c) (ix4 e g ⟨n.val, by omega⟩ q) := by
  refine Eq.trans ?_ (spec_apply (keys m c) (vals m c) (places m c) (inner m c) (outer m c) e g n q).symm
  match e with
  | 0 => exact (result_apply m c (keys m c) 0 g n q (fun _ _ => rfl)).trans (dite_congr rfl (fun _ => (if_pos Nat.zero_lt_one).symm) fun _ => rfl)
  | 1 => exact (result_apply m c (vals m c) 1 g n q (fun _ _ => rfl)).trans (dite_congr rfl (fun _ => (if_neg (lt_irrefl 1)).symm) fun _ => rfl)

/-- The blocks the claim speaks of are those before the kernel's last. -/
theorem block_of_mask [Cert.On_compressed_rows.Facts] (k v : FVec Ideal S8192x128 .f32) (p : FVec Ideal S2x32x64 .f32) (w : FVec Ideal S2x2048x256 .f32)
    (u : FVec Ideal S2x256x64 .f32) (e g : Fin 2) (n : Fin 512) (q : Fin 128) (hj : Cert.On_compressed_rows.fn k v p w u (ix4 e g n q) = 1#1) : n.val < 511 := by
  have hc : IntOp.cmpi .slt (BitVec.ofNat 32 n.val) 511#32 = 1#1 := by
    refine Eq.trans ?_ hj
    unfold Cert.On_compressed_rows.fn
    pointwise
  rw [WordCmp.cmpi_slt_eq, WordCmp.ofBool_decide_eq_one_iff, Cert.CompressReferenceIdeal.Hand.word_toInt _ (by omega),
    show (511#32 : BitVec 32).toInt = 511 from rfl] at hc
  omega

theorem masked_eq_spec [Cert.On_compressed_rows.Facts] (j : S2x2x512x128.Idx)
    (hj : Cert.On_compressed_rows.fn (keys m c) (vals m c) (places m c) (inner m c) (outer m c) j = 1#1) :
    result m c j = spec (keys m c) (vals m c) (places m c) (inner m c) (outer m c) j := by
  obtain ⟨e, g, n, q, rfl⟩ : ∃ (e g : Fin 2) (n : Fin 512) (q : Fin 128), j = ix4 e g n q := ⟨j 0, j 1, j 2, j 3, idx_ext4 rfl rfl rfl rfl⟩
  exact result_eq_spec m c e g ⟨n.val, block_of_mask _ _ _ _ _ e g n q hj⟩ q

end Cert.CompressIdeal.Hand

end
-- ==== Proof.lean ====
/- The claims of the two expert calls, the up projection and the down projection, of the input and output projections, of the spatial
   gating, and of the sparse attention's compression: the frames of each program, the expert calls' under the range of their tables, and over the reals the kernel's
   results as the reference's. -/
module

public import proofs.«01_k».proof.Defs
public import proofs.«01_k».proof.Proof.Gen.Up
public import proofs.«01_k».proof.Proof.Gen.Up.Skeleton
public import proofs.«01_k».proof.Proof.Gen.Up.Launch
public import proofs.«01_k».proof.Proof.Gen.UpIdeal
public import proofs.«01_k».proof.Proof.Gen.UpIdeal.Skeleton
public import proofs.«01_k».proof.Proof.Gen.UpIdeal.Launch
public import proofs.«01_k».proof.Proof.Gen.UpReferenceIdeal
public import proofs.«01_k».proof.Proof.Gen.Down
public import proofs.«01_k».proof.Proof.Gen.Down.Skeleton
public import proofs.«01_k».proof.Proof.Gen.Down.Launch
public import proofs.«01_k».proof.Proof.Gen.DownIdeal
public import proofs.«01_k».proof.Proof.Gen.DownIdeal.Skeleton
public import proofs.«01_k».proof.Proof.Gen.DownIdeal.Launch
public import proofs.«01_k».proof.Proof.Gen.DownReferenceIdeal
public import proofs.«01_k».proof.Proof.Gen.Pre_up_tables
public import proofs.«01_k».proof.Proof.Gen.Pre_down_tables
public import proofs.«01_k».proof.Proof.Gen.On_down_rows
public import proofs.«01_k».proof.Proof.Gen.UpReferenceIdeal.Run
public import proofs.«01_k».proof.Proof.Gen.DownReferenceIdeal.Run
public import proofs.«01_k».proof.Proof.Tables.Ranges
public import proofs.«01_k».proof.Proof.Up.Frame
public import proofs.«01_k».proof.Proof.Down.Frame
public import proofs.«01_k».proof.Proof.UpIdeal.Equation
public import proofs.«01_k».proof.Proof.DownIdeal.Equation
public import proofs.«01_k».proof.Proof.Gen.InProj.Frame
public import proofs.«01_k».proof.Proof.Gen.InProjIdeal.Frame
public import proofs.«01_k».proof.Proof.Gen.InProjIdeal.Value
public import proofs.«01_k».proof.Proof.Gen.InProjReferenceIdeal.Run
public import proofs.«01_k».proof.Proof.InProjIdeal.Equation
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjReferenceIdeal.Run
public import proofs.«01_k».proof.Proof.OutProjIdeal.Equation
public import proofs.«01_k».proof.Proof.Gen.Gating.Frame
public import proofs.«01_k».proof.Proof.Gen.GatingIdeal.Frame
public import proofs.«01_k».proof.Proof.Gen.GatingIdeal.Value
public import proofs.«01_k».proof.Proof.Gen.GatingReferenceIdeal.Run
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.Gen.CompressIdeal.Value
public import proofs.«01_k».proof.Proof.Gen.CompressReferenceIdeal
public import proofs.«01_k».proof.Proof.Gen.CompressReferenceIdeal.Run
public import proofs.«01_k».proof.Proof.Gen.On_compressed_rows
public import proofs.«01_k».proof.Proof.GatingIdeal.Equation
public import proofs.«01_k».proof.Proof.CompressIdeal.Equation
public import Idealize.ShloMosaic.Lib.Quiescent
public import Idealize.ShloMosaic.Adequacy
public import Idealize.ShloMosaic.Init

@[expose] public section

noncomputable section

namespace Cert.Proof

open Idealize.ShloMosaic Idealize.SL.Sem

/-! ## The up projection -/

theorem frame_up : Cert.quiescent_Up := fun m ρ h =>
  Cert.Up.Hand.frame m ρ (Cert.UpIdeal.Hand.ok_of_inRange _ (Cert.Ranges.of_up_tables _ _ _ _ _ (h 0)))

theorem inRange_up {m} (h : Cert.Pre_UpIdeal m) : Cert.UpIdeal.Hand.TablesInRange m := Cert.Ranges.of_up_tables _ _ _ _ _ (h 0)
theorem ok_up {m} (h : Cert.Pre_UpIdeal m) : Cert.UpIdeal.Hand.Ok m := Cert.UpIdeal.Hand.ok_of_inRange _ (inRange_up h)

theorem frame_upIdeal : Cert.quiescent_UpIdeal := fun m ρ h => Cert.UpIdeal.Hand.frame_run m ρ (ok_up h)

theorem frame_upReference : Cert.quiescent_UpReferenceIdeal := fun m ρ _ =>
  (θ_run Cert.UpReferenceIdeal.defs _ _).mono (fun r h => ⟨fun c => (h c).2, sem_eq_zero_of_no_sems (by decide) r.2⟩)
    (Cert.UpReferenceIdeal.Value.run m ρ)

theorem algebraic_up : Cert.algebraic_UpIdeal_UpReferenceIdeal := fun m ρ m' ρ' h hag =>
  ⟨fun c => Cert.UpIdeal.Hand.result m (inRange_up h) c,
    (θ_run Cert.UpIdeal.defs _ _).mono
      (fun r hr c => ⟨(hr.1 c).1.trans (Cert.UpIdeal.Hand.arrAt_result m (inRange_up h) (ok_up h) c), (hr.1 c).2⟩)
      (Cert.UpIdeal.Hand.run m ρ (ok_up h)),
    (θ_run Cert.UpReferenceIdeal.defs _ _).mono
      (fun r hr c => ⟨(hr c).1.trans (by
        obtain ⟨h0, h1, h2, h3, h4⟩ := hag c
        obtain rfl : c = 0 := Subsingleton.elim _ _
        rw [h0, h1, h2, h3, h4]
        exact (funext fun j => Cert.UpIdeal.Hand.result_eq_spec m (inRange_up h) 0 j).symm), (hr c).2⟩)
      (Cert.UpReferenceIdeal.Value.run m' ρ')⟩

/-! ## The down projection -/

theorem frame_down : Cert.quiescent_Down := fun m ρ h =>
  Cert.Down.Hand.frame m ρ (Cert.DownIdeal.Hand.ok_of_inRange _ (Cert.Ranges.of_down_tables _ _ _ _ _ (h 0)))

theorem inRange_down {m} (h : Cert.Pre_DownIdeal m) : Cert.DownIdeal.Hand.TablesInRange m := Cert.Ranges.of_down_tables _ _ _ _ _ (h 0)
theorem ok_down {m} (h : Cert.Pre_DownIdeal m) : Cert.DownIdeal.Hand.Ok m := Cert.DownIdeal.Hand.ok_of_inRange _ (inRange_down h)

theorem frame_downIdeal : Cert.quiescent_DownIdeal := fun m ρ h => Cert.DownIdeal.Hand.frame_run m ρ (ok_down h)

theorem frame_downReference : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run m ρ)

theorem algebraic_down : Cert.algebraic_DownIdeal_DownReferenceIdeal_on_down_rows := fun m ρ m' ρ' h hag =>
  ⟨fun c => Cert.DownIdeal.Hand.result m (inRange_down h) c,
    (θ_run Cert.DownIdeal.defs _ _).mono
      (fun r hr c => ⟨fun i _ => congrFun ((hr.1 c).1.trans (Cert.DownIdeal.Hand.arrAt_result m (inRange_down h) (ok_down h) c)) i, (hr.1 c).2⟩)
      (Cert.DownIdeal.Hand.run m ρ (ok_down h)),
    (θ_run Cert.DownReferenceIdeal.defs _ _).mono
      (fun r hr c => ⟨fun i hi => (congrFun (hr c).1 i).trans (by
        obtain ⟨h0, h1, h2, h3, h4⟩ := hag c
        obtain rfl : c = 0 := Subsingleton.elim _ _
        rw [h0, h2, h3, h4]
        exact (Cert.DownIdeal.Hand.result_eq_spec m (inRange_down h) 0 i
          (Cert.DownIdeal.Hand.row_of_mask (inRange_down h) _ _ _ i hi)).symm), (hr c).2⟩)
      (Cert.DownReferenceIdeal.Value.run m' ρ')⟩

/-! ## The input projection -/

theorem frame_inProj : Cert.quiescent_InProj := fun m ρ _ => Cert.InProj.Gen.frame m ρ

theorem frame_inProjIdeal : Cert.quiescent_InProjIdeal := fun m ρ _ => Cert.InProjIdeal.Gen.frame m ρ

theorem frame_inProjReference : Cert.quiescent_InProjReferenceIdeal := fun m ρ _ =>
  (θ_run Cert.InProjReferenceIdeal.defs _ _).mono (fun r h => ⟨fun c => (h c).2, sem_eq_zero_of_no_sems (by decide) r.2⟩)
    (Cert.InProjReferenceIdeal.Value.run m ρ)

theorem algebraic_inProj : Cert.algebraic_InProjIdeal_InProjReferenceIdeal := fun m ρ m' ρ' _ hag =>
  ⟨fun c => Cert.InProjIdeal.Hand.result m c,
    (θ_run Cert.InProjIdeal.defs _ _).mono (fun r hr c => ⟨(hr c).1.trans (Cert.InProjIdeal.Hand.array m c), (hr c).2⟩)
      (Cert.InProjIdeal.Value.run m ρ),
    (θ_run Cert.InProjReferenceIdeal.defs _ _).mono
      (fun r hr c => ⟨(hr c).1.trans (by
        obtain ⟨h0, h1, h2⟩ := hag c
        rw [h0, h1, h2]
        exact (Cert.InProjIdeal.Hand.result_eq_spec m c).symm), (hr c).2⟩)
      (Cert.InProjReferenceIdeal.Value.run m' ρ')⟩

/-! ## The output projection -/

theorem frame_outProj : Cert.quiescent_OutProj := fun m ρ _ => Cert.OutProj.Gen.frame m ρ

theorem frame_outProjIdeal : Cert.quiescent_OutProjIdeal := fun m ρ _ => Cert.OutProjIdeal.Gen.frame m ρ

theorem frame_outProjReference : Cert.quiescent_OutProjReferenceIdeal := fun m ρ _ =>
  (θ_run Cert.OutProjReferenceIdeal.defs _ _).mono (fun r h => ⟨fun c => (h c).2.2, sem_eq_zero_of_no_sems (by decide) r.2⟩)
    (Cert.OutProjReferenceIdeal.Value.run m ρ)

theorem algebraic_outProj : Cert.algebraic_OutProjIdeal_OutProjReferenceIdeal := fun m ρ m' ρ' _ hag =>
  ⟨fun c => Cert.OutProjIdeal.Hand.resultSum m c, fun c => Cert.OutProjIdeal.Hand.resultNorm m c,
    (θ_run Cert.OutProjIdeal.defs _ _).mono
      (fun r hr c => ⟨(hr c).1.trans (Cert.OutProjIdeal.Hand.array_sum m c),
        (hr c).2.1.trans (Cert.OutProjIdeal.Hand.array_norm m c), (hr c).2.2⟩)
      (Cert.OutProjIdeal.Value.run_blocks m ρ),
    (θ_run Cert.OutProjReferenceIdeal.defs _ _).mono
      (fun r hr c => by
        obtain ⟨h0, h1, h2, h3, h4, h5, h6, h7, h8⟩ := hag c
        refine ⟨(hr c).1.trans ?_, (hr c).2.1.trans ?_, (hr c).2.2⟩
        · rw [h0, h1, h2, h3, h4, h5, h6, h7]
          exact (Cert.OutProjIdeal.Hand.resultSum_eq_spec m c).symm
        · rw [h0, h1, h2, h3, h4, h5, h6, h7, h8]
          exact (Cert.OutProjIdeal.Hand.resultNorm_eq_spec m c).symm)
      (Cert.OutProjReferenceIdeal.Value.run m' ρ')⟩

/-! ## The spatial gating -/

theorem frame_gating : Cert.quiescent_Gating := fun m ρ _ => Cert.Gating.Gen.frame m ρ

theorem frame_gatingIdeal : Cert.quiescent_GatingIdeal := fun m ρ _ => Cert.GatingIdeal.Gen.frame m ρ

theorem frame_gatingReference : Cert.quiescent_GatingReferenceIdeal := fun m ρ _ =>
  (θ_run Cert.GatingReferenceIdeal.defs _ _).mono (fun r h => ⟨fun c => (h c).2, sem_eq_zero_of_no_sems (by decide) r.2⟩)
    (Cert.GatingReferenceIdeal.Value.run m ρ)

theorem algebraic_gating : Cert.algebraic_GatingIdeal_GatingReferenceIdeal := fun m ρ m' ρ' _ hag =>
  ⟨fun c => Cert.GatingIdeal.Hand.result m c,
    (θ_run Cert.GatingIdeal.defs _ _).mono (fun r hr c => ⟨(hr c).1.trans (Cert.GatingIdeal.Hand.array m c), (hr c).2⟩)
      (Cert.GatingIdeal.Value.run_blocks m ρ),
    (θ_run Cert.GatingReferenceIdeal.defs _ _).mono
      (fun r hr c => ⟨((hr c).1.trans (Cert.GatingReferenceIdeal.Hand.res_eq m' c)).trans (by
        obtain ⟨h0, h1, h2, h3, h4⟩ := hag c
        rw [h0, h1, h2, h3, h4]
        exact (Cert.GatingIdeal.Hand.result_eq_spec m c).symm), (hr c).2⟩)
      (Cert.GatingReferenceIdeal.Value.run m' ρ')⟩

/-! ## The compression -/

theorem frame_compress : Cert.quiescent_Compress := fun m ρ _ => Cert.Compress.Gen.frame m ρ

theorem frame_compressIdeal : Cert.quiescent_CompressIdeal := fun m ρ _ => Cert.CompressIdeal.Gen.frame m ρ

theorem frame_compressReference : Cert.quiescent_CompressReferenceIdeal := fun m ρ _ =>
  (θ_run Cert.CompressReferenceIdeal.defs _ _).mono (fun r h => ⟨fun c => (h c).2, sem_eq_zero_of_no_sems (by decide) r.2⟩)
    (Cert.CompressReferenceIdeal.Value.run m ρ)

theorem algebraic_compress : Cert.algebraic_CompressIdeal_CompressReferenceIdeal_on_compressed_rows := fun m ρ m' ρ' _ hag =>
  ⟨fun c => Cert.CompressIdeal.Hand.result m c,
    (θ_run Cert.CompressIdeal.defs _ _).mono
      (fun r hr c => ⟨fun i _ => congrFun ((hr c).1.trans (Cert.CompressIdeal.Hand.array m c)) i, (hr c).2⟩)
      (Cert.CompressIdeal.Value.run_blocks m ρ),
    (θ_run Cert.CompressReferenceIdeal.defs _ _).mono
      (fun r hr c => ⟨fun i hi => (congrFun ((hr c).1.trans (Cert.CompressReferenceIdeal.Hand.res_eq m' c)) i).trans (by
        obtain ⟨h0, h1, h2, h3, h4⟩ := hag c
        rw [h0, h1, h2, h3, h4]
        exact (Cert.CompressIdeal.Hand.masked_eq_spec m c i hi).symm), (hr c).2⟩)
      (Cert.CompressReferenceIdeal.Value.run m' ρ')⟩

theorem claim : Cert.Claim := ⟨Cert.Up.Gen.facts, Cert.UpIdeal.Gen.facts, Cert.UpReferenceIdeal.Gen.facts, Cert.Down.Gen.facts, Cert.DownIdeal.Gen.facts, Cert.DownReferenceIdeal.Gen.facts, Cert.InProj.Gen.facts, Cert.InProjIdeal.Gen.facts, Cert.InProjReferenceIdeal.Gen.facts, Cert.OutProj.Gen.facts, Cert.OutProjIdeal.Gen.facts, Cert.OutProjReferenceIdeal.Gen.facts, Cert.Gating.Gen.facts, Cert.GatingIdeal.Gen.facts, Cert.GatingReferenceIdeal.Gen.facts, Cert.Compress.Gen.facts, Cert.CompressIdeal.Gen.facts, Cert.CompressReferenceIdeal.Gen.facts, Cert.Pre_up_tables.Gen.facts, Cert.Pre_down_tables.Gen.facts, Cert.On_down_rows.Gen.facts, Cert.On_compressed_rows.Gen.facts,
  frame_up, frame_upIdeal, frame_upReference, fun m ρ _ => frame_upReference m ρ trivial,
  frame_down, frame_downIdeal, frame_downReference, fun m ρ _ => frame_downReference m ρ trivial,
  frame_inProj, frame_inProjIdeal, frame_inProjReference,
  frame_outProj, frame_outProjIdeal, frame_outProjReference,
  frame_gating, frame_gatingIdeal, frame_gatingReference,
  frame_compress, frame_compressIdeal, frame_compressReference,
  trivial, algebraic_up, trivial, algebraic_down, trivial, algebraic_inProj, trivial, algebraic_outProj, trivial, algebraic_gating, trivial, algebraic_compress⟩

end Cert.Proof

end
